-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_trained_inputs [hPre_trained_inputs : Cert.Pre_trained_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.1 = (fun _ => 1#1)
    ∧ (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.1 = (fun _ => 1#1)
    ∧ (Cert.Pre_trained_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_trained_inputs [hPre_trained_inputs : Cert.Pre_trained_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.1 = (fun _ => 1#1)
    ∧ (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.1 = (fun _ => 1#1)
    ∧ (Cert.Pre_trained_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_trained_inputs [hKernelIdeal : Cert.KernelIdeal.Facts] [hPre_trained_inputs : Cert.Pre_trained_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_trained_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_trained_inputs [hReferenceIdeal : Cert.ReferenceIdeal.Facts] [hPre_trained_inputs : Cert.Pre_trained_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_trained_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "half_pi" .f32 0x3FC90FDB#32 ((Real.pi * 2⁻¹ : ℝ) : EReal)
  ∧ IdealRules.named_const.Statement Cert.KernelIdeal.κ "sixth" .f32 0x3E2AAAAB#32 ((1 / 6 : ℝ) : EReal)

def algebraic_KernelIdeal_ReferenceIdeal_pre_trained_inputs [hKernelIdeal : Cert.KernelIdeal.Facts] [hReferenceIdeal : Cert.ReferenceIdeal.Facts] [hPre_trained_inputs : Cert.Pre_trained_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_trained_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_trained_inputs : Cert.Pre_trained_inputs.Facts),
    quiescent_Kernel (hKernel := hKernel)
    ∧ quiescent_KernelIdeal (hKernelIdeal := hKernelIdeal)
    ∧ quiescent_KernelIdeal_pre_trained_inputs (hKernelIdeal := hKernelIdeal) (hPre_trained_inputs := hPre_trained_inputs)
    ∧ quiescent_ReferenceIdeal (hReferenceIdeal := hReferenceIdeal)
    ∧ quiescent_ReferenceIdeal_pre_trained_inputs (hReferenceIdeal := hReferenceIdeal) (hPre_trained_inputs := hPre_trained_inputs)
    ∧ preserves_Kernel_KernelIdeal
    ∧ algebraic_KernelIdeal_ReferenceIdeal_pre_trained_inputs (hKernelIdeal := hKernelIdeal) (hReferenceIdeal := hReferenceIdeal) (hPre_trained_inputs := hPre_trained_inputs)
-- ==== Pre_trained_inputs.lean ====
abbrev S8192x1 : Shape := ⟨2, ![8192, 1]⟩
abbrev S8192x64 : Shape := ⟨2, ![8192, 64]⟩
abbrev S65x4 : Shape := ⟨2, ![65, 4]⟩
abbrev S4 : Shape := ⟨1, ![4]⟩
abbrev S64x2048 : Shape := ⟨2, ![64, 2048]⟩
abbrev S11x2048 : Shape := ⟨2, ![11, 2048]⟩
abbrev S2048 : Shape := ⟨1, ![2048]⟩
abbrev S32 : Shape := ⟨1, ![32]⟩
abbrev S32x2048 : Shape := ⟨2, ![32, 2048]⟩
abbrev S_ : Shape := ⟨0, ![]⟩

class Facts : Prop where
  bcast_S_S8192x1 : S_.BroadcastsInDim S8192x1 (![] : Fin 0 → Fin S8192x1.rank)
  bcast_S_S8192x64 : S_.BroadcastsInDim S8192x64 (![] : Fin 0 → Fin S8192x64.rank)
  bcast_S_S65x4 : S_.BroadcastsInDim S65x4 (![] : Fin 0 → Fin S65x4.rank)
  bcast_S_S4 : S_.BroadcastsInDim S4 (![] : Fin 0 → Fin S4.rank)
  bcast_S_S64x2048 : S_.BroadcastsInDim S64x2048 (![] : Fin 0 → Fin S64x2048.rank)
  bcast_S_S11x2048 : S_.BroadcastsInDim S11x2048 (![] : Fin 0 → Fin S11x2048.rank)
  bcast_S_S2048 : S_.BroadcastsInDim S2048 (![] : Fin 0 → Fin S2048.rank)
  bcast_S_S32 : S_.BroadcastsInDim S32 (![] : Fin 0 → Fin S32.rank)
  bcast_S_S32x2048 : S_.BroadcastsInDim S32x2048 (![] : Fin 0 → Fin S32x2048.rank)

variable [Facts]

def fn_part2 {F : FTy → Type} [FloatOps F] (main_arg14 : FVec F S2048 .f32) (main_arg15 : FVec F S2048 .f32) (main_v2 : IVec S8192x1 1) (main_v5 : IVec S8192x64 1) (main_v8 : IVec S65x4 1) (main_v11 : IVec S4 1) (main_v14 : IVec S64x2048 1) (main_v17 : IVec S11x2048 1) (main_v20 : IVec S2048 1) (main_v23 : IVec S2048 1) (main_v25 : IVec S32 1) (main_v28 : IVec S32x2048 1) (main_v30 : IVec S32 1) (main_v33 : IVec S32x2048 1) (main_v34 : FVec F S2048 .f32) : IVec S8192x1 1 × IVec S8192x64 1 × IVec S65x4 1 × IVec S4 1 × IVec S64x2048 1 × IVec S11x2048 1 × IVec S2048 1 × IVec S2048 1 × IVec S32 1 × IVec S32x2048 1 × IVec S32 1 × IVec S32x2048 1 × IVec S2048 1 × IVec S2048 1 :=
  let main_v35 : IVec S2048 1 := cmpf .oeq main_arg14 main_v34
  let main_cst_12 : FVec F S_ .f32 := constant S_ .f32 0x00000000#32
  let main_v36 : FVec F S2048 .f32 := broadcastInDim S2048 ![] bcast_S_S2048 main_cst_12
  let main_v37 : IVec S2048 1 := cmpf .oeq main_arg15 main_v36
  (main_v2, main_v5, main_v8, main_v11, main_v14, main_v17, main_v20, main_v23, main_v25, main_v28, main_v30, main_v33, main_v35, main_v37)

def fn_part1 {F : FTy → Type} [FloatOps F] (main_arg6 : FVec F S2048 .f32) (main_arg7 : FVec F S2048 .f32) (main_arg9 : FVec F S32 .f32) (main_arg10 : FVec F S32x2048 .f32) (main_arg11 : FVec F S32 .f32) (main_arg13 : FVec F S32x2048 .f32) (main_arg14 : FVec F S2048 .f32) (main_arg15 : FVec F S2048 .f32) (main_v2 : IVec S8192x1 1) (main_v5 : IVec S8192x64 1) (main_v8 : IVec S65x4 1) (main_v11 : IVec S4 1) (main_v14 : IVec S64x2048 1) (main_v17 : IVec S11x2048 1) : IVec S8192x1 1 × IVec S8192x64 1 × IVec S65x4 1 × IVec S4 1 × IVec S64x2048 1 × IVec S11x2048 1 × IVec S2048 1 × IVec S2048 1 × IVec S32 1 × IVec S32x2048 1 × IVec S32 1 × IVec S32x2048 1 × IVec S2048 1 × IVec S2048 1 :=
  let main_v18 : FVec F S2048 .f32 := Host.absf main_arg6
  let main_cst_5 : FVec F S_ .f32 := constant S_ .f32 0x7F800000#32
  let main_v19 : FVec F S2048 .f32 := broadcastInDim S2048 ![] bcast_S_S2048 main_cst_5
  let main_v20 : IVec S2048 1 := cmpf .olt main_v18 main_v19
  let main_v21 : FVec F S2048 .f32 := Host.absf main_arg7
  let main_cst_6 : FVec F S_ .f32 := constant S_ .f32 0x7F800000#32
  let main_v22 : FVec F S2048 .f32 := broadcastInDim S2048 ![] bcast_S_S2048 main_cst_6
  let main_v23 : IVec S2048 1 := cmpf .olt main_v21 main_v22
  let main_cst_7 : FVec F S_ .f32 := constant S_ .f32 0xFF800000#32
  let main_v24 : FVec F S32 .f32 := broadcastInDim S32 ![] bcast_S_S32 main_cst_7
  let main_v25 : IVec S32 1 := cmpf .une main_arg9 main_v24
  let main_v26 : FVec F S32x2048 .f32 := Host.absf main_arg10
  let main_cst_8 : FVec F S_ .f32 := constant S_ .f32 0x7F800000#32
  let main_v27 : FVec F S32x2048 .f32 := broadcastInDim S32x2048 ![] bcast_S_S32x2048 main_cst_8
  let main_v28 : IVec S32x2048 1 := cmpf .olt main_v26 main_v27
  let main_cst_9 : FVec F S_ .f32 := constant S_ .f32 0x00000000#32
  let main_v29 : FVec F S32 .f32 := broadcastInDim S32 ![] bcast_S_S32 main_cst_9
  let main_v30 : IVec S32 1 := cmpf .une main_arg11 main_v29
  let main_v31 : FVec F S32x2048 .f32 := Host.absf main_arg13
  let main_cst_10 : FVec F S_ .f32 := constant S_ .f32 0x7F800000#32
  let main_v32 : FVec F S32x2048 .f32 := broadcastInDim S32x2048 ![] bcast_S_S32x2048 main_cst_10
  let main_v33 : IVec S32x2048 1 := cmpf .olt main_v31 main_v32
  let main_cst_11 : FVec F S_ .f32 := constant S_ .f32 0x3F800000#32
  let main_v34 : FVec F S2048 .f32 := broadcastInDim S2048 ![] bcast_S_S2048 main_cst_11
  fn_part2 (F := F) main_arg14 main_arg15 main_v2 main_v5 main_v8 main_v11 main_v14 main_v17 main_v20 main_v23 main_v25 main_v28 main_v30 main_v33 main_v34

def fn {F : FTy → Type} [FloatOps F] (main_arg0 : FVec F S8192x1 .f32) (main_arg1 : FVec F S8192x64 .f32) (main_arg2 : FVec F S65x4 .f32) (main_arg3 : FVec F S4 .f32) (main_arg4 : FVec F S64x2048 .f32) (main_arg5 : FVec F S11x2048 .f32) (main_arg6 : FVec F S2048 .f32) (main_arg7 : FVec F S2048 .f32) (main_arg8 : FVec F S32 .f32) (main_arg9 : FVec F S32 .f32) (main_arg10 : FVec F S32x2048 .f32) (main_arg11 : FVec F S32 .f32) (main_arg12 : FVec F S32 .f32) (main_arg13 : FVec F S32x2048 .f32) (main_arg14 : FVec F S2048 .f32) (main_arg15 : FVec F S2048 .f32) : IVec S8192x1 1 × IVec S8192x64 1 × IVec S65x4 1 × IVec S4 1 × IVec S64x2048 1 × IVec S11x2048 1 × IVec S2048 1 × IVec S2048 1 × IVec S32 1 × IVec S32x2048 1 × IVec S32 1 × IVec S32x2048 1 × IVec S2048 1 × IVec S2048 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_v3 : FVec F S8192x64 .f32 := Host.absf main_arg1
  let main_cst_0 : FVec F S_ .f32 := constant S_ .f32 0x7F800000#32
  let main_v4 : FVec F S8192x64 .f32 := broadcastInDim S8192x64 ![] bcast_S_S8192x64 main_cst_0
  let main_v5 : IVec S8192x64 1 := cmpf .olt main_v3 main_v4
  let main_v6 : FVec F S65x4 .f32 := Host.absf main_arg2
  let main_cst_1 : FVec F S_ .f32 := constant S_ .f32 0x7F800000#32
  let main_v7 : FVec F S65x4 .f32 := broadcastInDim S65x4 ![] bcast_S_S65x4 main_cst_1
  let main_v8 : IVec S65x4 1 := cmpf .olt main_v6 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_v12 : FVec F S64x2048 .f32 := Host.absf main_arg4
  let main_cst_3 : FVec F S_ .f32 := constant S_ .f32 0x7F800000#32
  let main_v13 : FVec F S64x2048 .f32 := broadcastInDim S64x2048 ![] bcast_S_S64x2048 main_cst_3
  let main_v14 : IVec S64x2048 1 := cmpf .olt main_v12 main_v13
  let main_v15 : FVec F S11x2048 .f32 := Host.absf main_arg5
  let main_cst_4 : FVec F S_ .f32 := constant S_ .f32 0x7F800000#32
  let main_v16 : FVec F S11x2048 .f32 := broadcastInDim S11x2048 ![] bcast_S_S11x2048 main_cst_4
  let main_v17 : IVec S11x2048 1 := cmpf .olt main_v15 main_v16
  fn_part1 (F := F) main_arg6 main_arg7 main_arg9 main_arg10 main_arg11 main_arg13 main_arg14 main_arg15 main_v2 main_v5 main_v8 main_v11 main_v14 main_v17
-- ==== Kernel.lean ====
abbrev S8192x1 : Shape := ⟨2, ![8192, 1]⟩
abbrev S8192x64 : Shape := ⟨2, ![8192, 64]⟩
abbrev S65x4 : Shape := ⟨2, ![65, 4]⟩
abbrev S4 : Shape := ⟨1, ![4]⟩
abbrev S64x2048 : Shape := ⟨2, ![64, 2048]⟩
abbrev S11x2048 : Shape := ⟨2, ![11, 2048]⟩
abbrev S2048 : Shape := ⟨1, ![2048]⟩
abbrev S32 : Shape := ⟨1, ![32]⟩
abbrev S32x2048 : Shape := ⟨2, ![32, 2048]⟩
abbrev S1x8192 : Shape := ⟨2, ![1, 8192]⟩
abbrev S1x4 : Shape := ⟨2, ![1, 4]⟩
abbrev S32x1 : Shape := ⟨2, ![32, 1]⟩
abbrev S1x2048 : Shape := ⟨2, ![1, 2048]⟩
abbrev S8192x2048 : Shape := ⟨2, ![8192, 2048]⟩
abbrev S8192x4 : Shape := ⟨2, ![8192, 4]⟩
abbrev S1x1024 : Shape := ⟨2, ![1, 1024]⟩
abbrev S1024x64 : Shape := ⟨2, ![1024, 64]⟩
abbrev S1024x2048 : Shape := ⟨2, ![1024, 2048]⟩
abbrev S1024x4 : Shape := ⟨2, ![1024, 4]⟩
abbrev S144x144 : Shape := ⟨2, ![144, 144]⟩
abbrev S144x2048 : Shape := ⟨2, ![144, 2048]⟩
abbrev S8x64 : Shape := ⟨2, ![8, 64]⟩
abbrev S8x1 : Shape := ⟨2, ![8, 1]⟩
abbrev S4x2048 : Shape := ⟨2, ![4, 2048]⟩
abbrev S16x2048 : Shape := ⟨2, ![16, 2048]⟩
abbrev S144 : Shape := ⟨1, ![144]⟩
abbrev S144x1 : Shape := ⟨2, ![144, 1]⟩
abbrev S64x64 : Shape := ⟨2, ![64, 64]⟩
abbrev S4x4 : Shape := ⟨2, ![4, 4]⟩
abbrev S4x64 : Shape := ⟨2, ![4, 64]⟩
abbrev S64x4 : Shape := ⟨2, ![64, 4]⟩
abbrev S4x1 : Shape := ⟨2, ![4, 1]⟩
abbrev S8x1024 : Shape := ⟨2, ![8, 1024]⟩
abbrev S8x8 : Shape := ⟨2, ![8, 8]⟩
abbrev S1024x8 : Shape := ⟨2, ![1024, 8]⟩
abbrev S32x1024 : Shape := ⟨2, ![32, 1024]⟩
abbrev S16x1024 : Shape := ⟨2, ![16, 1024]⟩
abbrev S64x1024 : Shape := ⟨2, ![64, 1024]⟩
abbrev S16x1 : Shape := ⟨2, ![16, 1]⟩
abbrev S144x1024 : Shape := ⟨2, ![144, 1024]⟩
abbrev S1024 : Shape := ⟨1, ![1024]⟩
abbrev S_ : Shape := ⟨0, ![]⟩

abbrev nBuf : Space → Nat
  | .hbm => 31
  | .vmem => 27
  | .smem => 0
  | _ => 0

abbrev bufTy : (tb : Table) → Fin (tcTables nBuf tb) → BufTy
  | .hbm, ⟨0, _⟩ => ⟨S8192x1, .f32⟩
  | .hbm, ⟨1, _⟩ => ⟨S8192x64, .f32⟩
  | .hbm, ⟨2, _⟩ => ⟨S65x4, .f32⟩
  | .hbm, ⟨3, _⟩ => ⟨S4, .f32⟩
  | .hbm, ⟨4, _⟩ => ⟨S64x2048, .f32⟩
  | .hbm, ⟨5, _⟩ => ⟨S11x2048, .f32⟩
  | .hbm, ⟨6, _⟩ => ⟨S2048, .f32⟩
  | .hbm, ⟨7, _⟩ => ⟨S2048, .f32⟩
  | .hbm, ⟨8, _⟩ => ⟨S32, .f32⟩
  | .hbm, ⟨9, _⟩ => ⟨S32, .f32⟩
  | .hbm, ⟨10, _⟩ => ⟨S32x2048, .f32⟩
  | .hbm, ⟨11, _⟩ => ⟨S32, .f32⟩
  | .hbm, ⟨12, _⟩ => ⟨S32, .f32⟩
  | .hbm, ⟨13, _⟩ => ⟨S32x2048, .f32⟩
  | .hbm, ⟨14, _⟩ => ⟨S2048, .f32⟩
  | .hbm, ⟨15, _⟩ => ⟨S2048, .f32⟩
  | .hbm, ⟨16, _⟩ => ⟨S1x8192, .f32⟩
  | .hbm, ⟨17, _⟩ => ⟨S1x4, .f32⟩
  | .hbm, ⟨18, _⟩ => ⟨S32x1, .f32⟩
  | .hbm, ⟨19, _⟩ => ⟨S32x1, .f32⟩
  | .hbm, ⟨20, _⟩ => ⟨S32x1, .f32⟩
  | .hbm, ⟨21, _⟩ => ⟨S32x1, .f32⟩
  | .hbm, ⟨22, _⟩ => ⟨S1x2048, .f32⟩
  | .hbm, ⟨23, _⟩ => ⟨S1x2048, .f32⟩
  | .hbm, ⟨24, _⟩ => ⟨S8192x2048, .f32⟩
  | .hbm, ⟨25, _⟩ => ⟨S8192x4, .f32⟩
  | .hbm, ⟨26, _⟩ => ⟨S8192x4, .i32⟩
  | .hbm, ⟨27, _⟩ => ⟨S_, .i32⟩
  | .hbm, ⟨28, _⟩ => ⟨S8192x4, .i32⟩
  | .hbm, ⟨29, _⟩ => ⟨S8192x4, .i1⟩
  | .hbm, ⟨30, _⟩ => ⟨S8192x4, .i1⟩
  | .local _ .vmem, ⟨0, _⟩ => ⟨S1x1024, .f32⟩
  | .local _ .vmem, ⟨1, _⟩ => ⟨S1x1024, .f32⟩
  | .local _ .vmem, ⟨2, _⟩ => ⟨S1024x64, .f32⟩
  | .local _ .vmem, ⟨3, _⟩ => ⟨S1024x64, .f32⟩
  | .local _ .vmem, ⟨4, _⟩ => ⟨S65x4, .f32⟩
  | .local _ .vmem, ⟨5, _⟩ => ⟨S1x4, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | .local _ .vmem, ⟨10, _⟩ => ⟨S64x2048, .f32⟩
  | .local _ .vmem, ⟨11, _⟩ => ⟨S32x2048, .f32⟩
  | .local _ .vmem, ⟨12, _⟩ => ⟨S32x2048, .f32⟩
  | .local _ .vmem, ⟨13, _⟩ => ⟨S11x2048, .f32⟩
  | .local _ .vmem, ⟨14, _⟩ => ⟨S1x2048, .f32⟩
  | .local _ .vmem, ⟨15, _⟩ => ⟨S1x2048, .f32⟩
  | .local _ .vmem, ⟨16, _⟩ => ⟨S1024x2048, .f32⟩
  | .local _ .vmem, ⟨17, _⟩ => ⟨S1024x2048, .f32⟩
  | .local _ .vmem, ⟨18, _⟩ => ⟨S1024x4, .f32⟩
  | .local _ .vmem, ⟨19, _⟩ => ⟨S1024x4, .f32⟩
  | .local _ .vmem, ⟨20, _⟩ => ⟨S1024x4, .i32⟩
  | .local _ .vmem, ⟨21, _⟩ => ⟨S1024x4, .i32⟩
  | .local _ .vmem, ⟨22, _⟩ => ⟨S144x144, .f32⟩
  | .local _ .vmem, ⟨23, _⟩ => ⟨S144x2048, .f32⟩
  | .local _ .vmem, ⟨24, _⟩ => ⟨S8x64, .f32⟩
  | .local _ .vmem, ⟨25, _⟩ => ⟨S8x1, .f32⟩
  | .local _ .vmem, ⟨26, _⟩ => ⟨S8x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S65x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S11x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x4 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x4 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "half_pi" => some ((Real.pi * 2⁻¹ : ℝ) : EReal)
  | "sixth" => some ((1 / 6 : ℝ) : EReal)
  | _ => none
-- ==== ReferenceIdeal.lean ====
abbrev S8192x1 : Shape := ⟨2, ![8192, 1]⟩
abbrev S8192x64 : Shape := ⟨2, ![8192, 64]⟩
abbrev S65x4 : Shape := ⟨2, ![65, 4]⟩
abbrev S4 : Shape := ⟨1, ![4]⟩
abbrev S64x2048 : Shape := ⟨2, ![64, 2048]⟩
abbrev S11x2048 : Shape := ⟨2, ![11, 2048]⟩
abbrev S2048 : Shape := ⟨1, ![2048]⟩
abbrev S32 : Shape := ⟨1, ![32]⟩
abbrev S32x2048 : Shape := ⟨2, ![32, 2048]⟩
abbrev S8192x65 : Shape := ⟨2, ![8192, 65]⟩
abbrev S8192x4 : Shape := ⟨2, ![8192, 4]⟩
abbrev S1x4 : Shape := ⟨2, ![1, 4]⟩
abbrev S_ : Shape := ⟨0, ![]⟩
abbrev S8192 : Shape := ⟨1, ![8192]⟩
abbrev S8192x2 : Shape := ⟨2, ![8192, 2]⟩
abbrev S8192x2x1 : Shape := ⟨3, ![8192, 2, 1]⟩
abbrev S8192x2x2 : Shape := ⟨3, ![8192, 2, 2]⟩
abbrev S1x32 : Shape := ⟨2, ![1, 32]⟩
abbrev S8192x32 : Shape := ⟨2, ![8192, 32]⟩
abbrev S8192x2048 : Shape := ⟨2, ![8192, 2048]⟩
abbrev S15 : Shape := ⟨1, ![15]⟩
abbrev S14 : Shape := ⟨1, ![14]⟩
abbrev S1x14 : Shape := ⟨2, ![1, 14]⟩
abbrev S8192x14 : Shape := ⟨2, ![8192, 14]⟩
abbrev S13 : Shape := ⟨1, ![13]⟩
abbrev S1x13 : Shape := ⟨2, ![1, 13]⟩
abbrev S8192x13 : Shape := ⟨2, ![8192, 13]⟩
abbrev S12 : Shape := ⟨1, ![12]⟩
abbrev S1x12 : Shape := ⟨2, ![1, 12]⟩
abbrev S8192x12 : Shape := ⟨2, ![8192, 12]⟩
abbrev S11 : Shape := ⟨1, ![11]⟩
abbrev S1x11 : Shape := ⟨2, ![1, 11]⟩
abbrev S8192x11 : Shape := ⟨2, ![8192, 11]⟩
abbrev S1x2048 : Shape := ⟨2, ![1, 2048]⟩
abbrev S8192x1x2048 : Shape := ⟨3, ![8192, 1, 2048]⟩
abbrev S8192x4x2048 : Shape := ⟨3, ![8192, 4, 2048]⟩
abbrev S8192x4x1 : Shape := ⟨3, ![8192, 4, 1]⟩

abbrev nBuf : Space → Nat
  | .hbm => 325
  | .vmem => 0
  | .smem => 0
  | _ => 0

abbrev hbmTy0_0 (i : Nat) : BufTy := match i % 128 with
  | 0 => ⟨S8192x1, .f32⟩
  | 1 => ⟨S8192x64, .f32⟩
  | 2 => ⟨S65x4, .f32⟩
  | 3 => ⟨S4, .f32⟩
  | 4 => ⟨S64x2048, .f32⟩
  | 5 => ⟨S11x2048, .f32⟩
  | 6 => ⟨S2048, .f32⟩
  | 7 => ⟨S2048, .f32⟩
  | 8 => ⟨S32, .f32⟩
  | 9 => ⟨S32, .f32⟩
  | 10 => ⟨S32x2048, .f32⟩
  | 11 => ⟨S32, .f32⟩
  | 12 => ⟨S32, .f32⟩
  | 13 => ⟨S32x2048, .f32⟩
  | 14 => ⟨S2048, .f32⟩
  | 15 => ⟨S2048, .f32⟩
  | 16 => ⟨S8192x65, .f32⟩
  | 17 => ⟨S8192x4, .f32⟩
  | 18 => ⟨S1x4, .f32⟩
  | 19 => ⟨S8192x4, .f32⟩
  | 20 => ⟨S8192x4, .f32⟩
  | 21 => ⟨S_, .f32⟩
  | 22 => ⟨S8192, .f32⟩
  | 23 => ⟨S_, .f32⟩
  | 24 => ⟨S8192, .f32⟩
  | 25 => ⟨S8192, .f32⟩
  | 26 => ⟨S8192x1, .f32⟩
  | 27 => ⟨S8192x4, .f32⟩
  | 28 => ⟨S8192x4, .f32⟩
  | 29 => ⟨S8192x4, .f32⟩
  | 30 => ⟨S_, .f32⟩
  | 31 => ⟨S8192, .f32⟩
  | 32 => ⟨S8192x1, .f32⟩
  | 33 => ⟨S8192x4, .f32⟩
  | 34 => ⟨S8192x4, .f32⟩
  | 35 => ⟨S8192x2, .f32⟩
  | 36 => ⟨S8192x2, .i32⟩
  | 37 => ⟨S_, .f32⟩
  | 38 => ⟨S8192, .f32⟩
  | 39 => ⟨S_, .f32⟩
  | 40 => ⟨S8192, .f32⟩
  | 41 => ⟨S8192, .f32⟩
  | 42 => ⟨S8192x1, .f32⟩
  | 43 => ⟨S8192x2, .f32⟩
  | 44 => ⟨S8192x2, .f32⟩
  | 45 => ⟨S8192x2, .f32⟩
  | 46 => ⟨S_, .f32⟩
  | 47 => ⟨S8192, .f32⟩
  | 48 => ⟨S8192x1, .f32⟩
  | 49 => ⟨S8192x2, .f32⟩
  | 50 => ⟨S8192x2, .f32⟩
  | 51 => ⟨S8192, .i32⟩
  | 52 => ⟨S8192x1, .i32⟩
  | 53 => ⟨S_, .i1⟩
  | 54 => ⟨S8192x4, .i1⟩
  | 55 => ⟨S_, .i32⟩
  | 56 => ⟨S8192x1, .i32⟩
  | 57 => ⟨S8192x1, .i1⟩
  | 58 => ⟨S_, .i32⟩
  | 59 => ⟨S8192x1, .i32⟩
  | 60 => ⟨S8192x1, .i32⟩
  | 61 => ⟨S8192x1, .i32⟩
  | 62 => ⟨S_, .i32⟩
  | 63 => ⟨S8192x2, .i32⟩
  | 64 => ⟨S8192x2, .i1⟩
  | 65 => ⟨S_, .i32⟩
  | 66 => ⟨S8192x2, .i32⟩
  | 67 => ⟨S8192x2, .i32⟩
  | 68 => ⟨S8192x2, .i32⟩
  | 69 => ⟨S8192x2, .i32⟩
  | 70 => ⟨S8192x2x1, .i32⟩
  | 71 => ⟨S8192x2x1, .i32⟩
  | 72 => ⟨S8192x2x2, .i32⟩
  | 73 => ⟨S_, .i1⟩
  | 74 => ⟨S8192x2, .i1⟩
  | 75 => ⟨S8192x4, .i1⟩
  | 76 => ⟨S_, .f32⟩
  | 77 => ⟨S8192x4, .f32⟩
  | 78 => ⟨S_, .i32⟩
  | 79 => ⟨S8192x1, .i32⟩
  | 80 => ⟨S8192x1, .i1⟩
  | 81 => ⟨S_, .i32⟩
  | 82 => ⟨S8192x1, .i32⟩
  | 83 => ⟨S8192x1, .i32⟩
  | 84 => ⟨S8192x1, .i32⟩
  | 85 => ⟨S_, .i32⟩
  | 86 => ⟨S8192x2, .i32⟩
  | 87 => ⟨S8192x2, .i1⟩
  | 88 => ⟨S_, .i32⟩
  | 89 => ⟨S8192x2, .i32⟩
  | 90 => ⟨S8192x2, .i32⟩
  | 91 => ⟨S8192x2, .i32⟩
  | 92 => ⟨S8192x2, .i32⟩
  | 93 => ⟨S8192x2x1, .i32⟩
  | 94 => ⟨S8192x2x1, .i32⟩
  | 95 => ⟨S8192x2x2, .i32⟩
  | 96 => ⟨S8192x4, .f32⟩
  | 97 => ⟨S8192, .f32⟩
  | 98 => ⟨S32, .f32⟩
  | 99 => ⟨S_, .f32⟩
  | 100 => ⟨S32, .f32⟩
  | 101 => ⟨S32, .f32⟩
  | 102 => ⟨S8192x1, .f32⟩
  | 103 => ⟨S1x32, .f32⟩
  | 104 => ⟨S8192x32, .f32⟩
  | 105 => ⟨S8192x32, .f32⟩
  | 106 => ⟨S8192x32, .f32⟩
  | 107 => ⟨S_, .f32⟩
  | 108 => ⟨S8192x32, .f32⟩
  | 109 => ⟨S8192x32, .f32⟩
  | 110 => ⟨S8192x32, .f32⟩
  | 111 => ⟨S8192x32, .f32⟩
  | 112 => ⟨S8192x64, .f32⟩
  | 113 => ⟨S8192x2048, .f32⟩
  | 114 => ⟨S15, .f32⟩
  | 115 => ⟨S_, .f32⟩
  | 116 => ⟨S15, .f32⟩
  | 117 => ⟨S15, .f32⟩
  | 118 => ⟨S_, .f32⟩
  | 119 => ⟨S15, .f32⟩
  | 120 => ⟨S15, .f32⟩
  | 121 => ⟨S_, .f32⟩
  | 122 => ⟨S15, .f32⟩
  | 123 => ⟨S15, .f32⟩
  | 124 => ⟨S8192x1, .f32⟩
  | 125 => ⟨S14, .f32⟩
  | 126 => ⟨S1x14, .f32⟩
  | 127 => ⟨S8192x14, .f32⟩
  | _ => ⟨S8192x1, .f32⟩

abbrev hbmTy0_1 (i : Nat) : BufTy := match i % 128 with
  | 0 => ⟨S8192x14, .f32⟩
  | 1 => ⟨S8192x14, .i1⟩
  | 2 => ⟨S14, .f32⟩
  | 3 => ⟨S1x14, .f32⟩
  | 4 => ⟨S8192x14, .f32⟩
  | 5 => ⟨S8192x14, .f32⟩
  | 6 => ⟨S8192x14, .i1⟩
  | 7 => ⟨S8192x14, .i1⟩
  | 8 => ⟨S8192x14, .f32⟩
  | 9 => ⟨S13, .f32⟩
  | 10 => ⟨S1x13, .f32⟩
  | 11 => ⟨S8192x13, .f32⟩
  | 12 => ⟨S8192x13, .f32⟩
  | 13 => ⟨S8192x13, .f32⟩
  | 14 => ⟨S13, .f32⟩
  | 15 => ⟨S13, .f32⟩
  | 16 => ⟨S13, .f32⟩
  | 17 => ⟨S1x13, .f32⟩
  | 18 => ⟨S8192x13, .f32⟩
  | 19 => ⟨S8192x13, .f32⟩
  | 20 => ⟨S8192x13, .f32⟩
  | 21 => ⟨S8192x13, .f32⟩
  | 22 => ⟨S13, .f32⟩
  | 23 => ⟨S1x13, .f32⟩
  | 24 => ⟨S8192x13, .f32⟩
  | 25 => ⟨S8192x13, .f32⟩
  | 26 => ⟨S8192x13, .f32⟩
  | 27 => ⟨S13, .f32⟩
  | 28 => ⟨S13, .f32⟩
  | 29 => ⟨S13, .f32⟩
  | 30 => ⟨S1x13, .f32⟩
  | 31 => ⟨S8192x13, .f32⟩
  | 32 => ⟨S8192x13, .f32⟩
  | 33 => ⟨S8192x13, .f32⟩
  | 34 => ⟨S8192x13, .f32⟩
  | 35 => ⟨S8192x13, .f32⟩
  | 36 => ⟨S12, .f32⟩
  | 37 => ⟨S1x12, .f32⟩
  | 38 => ⟨S8192x12, .f32⟩
  | 39 => ⟨S8192x12, .f32⟩
  | 40 => ⟨S8192x12, .f32⟩
  | 41 => ⟨S12, .f32⟩
  | 42 => ⟨S12, .f32⟩
  | 43 => ⟨S12, .f32⟩
  | 44 => ⟨S1x12, .f32⟩
  | 45 => ⟨S8192x12, .f32⟩
  | 46 => ⟨S8192x12, .f32⟩
  | 47 => ⟨S8192x12, .f32⟩
  | 48 => ⟨S8192x12, .f32⟩
  | 49 => ⟨S12, .f32⟩
  | 50 => ⟨S1x12, .f32⟩
  | 51 => ⟨S8192x12, .f32⟩
  | 52 => ⟨S8192x12, .f32⟩
  | 53 => ⟨S8192x12, .f32⟩
  | 54 => ⟨S12, .f32⟩
  | 55 => ⟨S12, .f32⟩
  | 56 => ⟨S12, .f32⟩
  | 57 => ⟨S1x12, .f32⟩
  | 58 => ⟨S8192x12, .f32⟩
  | 59 => ⟨S8192x12, .f32⟩
  | 60 => ⟨S8192x12, .f32⟩
  | 61 => ⟨S8192x12, .f32⟩
  | 62 => ⟨S8192x12, .f32⟩
  | 63 => ⟨S11, .f32⟩
  | 64 => ⟨S1x11, .f32⟩
  | 65 => ⟨S8192x11, .f32⟩
  | 66 => ⟨S8192x11, .f32⟩
  | 67 => ⟨S8192x11, .f32⟩
  | 68 => ⟨S11, .f32⟩
  | 69 => ⟨S11, .f32⟩
  | 70 => ⟨S11, .f32⟩
  | 71 => ⟨S1x11, .f32⟩
  | 72 => ⟨S8192x11, .f32⟩
  | 73 => ⟨S8192x11, .f32⟩
  | 74 => ⟨S8192x11, .f32⟩
  | 75 => ⟨S8192x11, .f32⟩
  | 76 => ⟨S11, .f32⟩
  | 77 => ⟨S1x11, .f32⟩
  | 78 => ⟨S8192x11, .f32⟩
  | 79 => ⟨S8192x11, .f32⟩
  | 80 => ⟨S8192x11, .f32⟩
  | 81 => ⟨S11, .f32⟩
  | 82 => ⟨S11, .f32⟩
  | 83 => ⟨S11, .f32⟩
  | 84 => ⟨S1x11, .f32⟩
  | 85 => ⟨S8192x11, .f32⟩
  | 86 => ⟨S8192x11, .f32⟩
  | 87 => ⟨S8192x11, .f32⟩
  | 88 => ⟨S8192x11, .f32⟩
  | 89 => ⟨S8192x11, .f32⟩
  | 90 => ⟨S8192x2048, .f32⟩
  | 91 => ⟨S8192, .f32⟩
  | 92 => ⟨S8192, .f32⟩
  | 93 => ⟨S_, .f32⟩
  | 94 => ⟨S8192, .f32⟩
  | 95 => ⟨S8192, .f32⟩
  | 96 => ⟨S_, .f32⟩
  | 97 => ⟨S8192, .f32⟩
  | 98 => ⟨S8192, .f32⟩
  | 99 => ⟨S8192, .f32⟩
  | 100 => ⟨S8192x1, .f32⟩
  | 101 => ⟨S1x2048, .f32⟩
  | 102 => ⟨S8192x2048, .f32⟩
  | 103 => ⟨S8192x2048, .f32⟩
  | 104 => ⟨S8192x2048, .f32⟩
  | 105 => ⟨S1x2048, .f32⟩
  | 106 => ⟨S8192x2048, .f32⟩
  | 107 => ⟨S8192x2048, .f32⟩
  | 108 => ⟨S8192x2048, .f32⟩
  | 109 => ⟨S32, .f32⟩
  | 110 => ⟨S8192x1, .f32⟩
  | 111 => ⟨S1x32, .f32⟩
  | 112 => ⟨S8192x32, .f32⟩
  | 113 => ⟨S8192x32, .f32⟩
  | 114 => ⟨S8192x32, .f32⟩
  | 115 => ⟨S1x32, .f32⟩
  | 116 => ⟨S8192x32, .f32⟩
  | 117 => ⟨S8192x32, .f32⟩
  | 118 => ⟨S8192x32, .f32⟩
  | 119 => ⟨S_, .f32⟩
  | 120 => ⟨S8192x32, .f32⟩
  | 121 => ⟨S8192x32, .f32⟩
  | 122 => ⟨S8192x32, .f32⟩
  | 123 => ⟨S8192x2048, .f32⟩
  | 124 => ⟨S8192x1, .f32⟩
  | 125 => ⟨S1x32, .f32⟩
  | 126 => ⟨S8192x32, .f32⟩
  | 127 => ⟨S8192x32, .f32⟩
  | _ => ⟨S8192x1, .f32⟩

abbrev hbmTy0_2 (i : Nat) : BufTy := match i % 128 with
  | 0 => ⟨S8192x32, .f32⟩
  | 1 => ⟨S1x32, .f32⟩
  | 2 => ⟨S8192x32, .f32⟩
  | 3 => ⟨S8192x32, .f32⟩
  | 4 => ⟨S8192x32, .f32⟩
  | 5 => ⟨S_, .f32⟩
  | 6 => ⟨S8192x32, .f32⟩
  | 7 => ⟨S8192x32, .f32⟩
  | 8 => ⟨S8192x32, .f32⟩
  | 9 => ⟨S_, .f32⟩
  | 10 => ⟨S8192x32, .f32⟩
  | 11 => ⟨S8192x32, .f32⟩
  | 12 => ⟨S8192x32, .f32⟩
  | 13 => ⟨S8192x32, .f32⟩
  | 14 => ⟨S8192x2048, .f32⟩
  | 15 => ⟨S8192x1x2048, .f32⟩
  | 16 => ⟨S8192x1x2048, .f32⟩
  | 17 => ⟨S8192x1x2048, .f32⟩
  | 18 => ⟨S8192x1x2048, .f32⟩
  | 19 => ⟨S8192x4x2048, .f32⟩
  | 20 => ⟨S8192x4x1, .f32⟩
  | 21 => ⟨S8192x4x2048, .f32⟩
  | 22 => ⟨S8192x4x2048, .f32⟩
  | 23 => ⟨S_, .f32⟩
  | 24 => ⟨S8192x2048, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S_, .i32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S8192x2048, .f32⟩
  | 39 => ⟨S8192x2048, .f32⟩
  | 40 => ⟨S8192x2048, .f32⟩
  | 41 => ⟨S_, .f32⟩
  | 42 => ⟨S_, .f32⟩
  | 43 => ⟨S_, .f32⟩
  | 44 => ⟨S_, .f32⟩
  | 45 => ⟨S8192, .f32⟩
  | 46 => ⟨S8192x1, .f32⟩
  | 47 => ⟨S8192x1, .f32⟩
  | 48 => ⟨S8192x1, .f32⟩
  | 49 => ⟨S_, .f32⟩
  | 50 => ⟨S_, .i1⟩
  | 51 => ⟨S_, .f32⟩
  | 52 => ⟨S_, .f32⟩
  | 53 => ⟨S8192x1, .f32⟩
  | 54 => ⟨S8192x1, .f32⟩
  | 55 => ⟨S8192x2048, .f32⟩
  | 56 => ⟨S8192x2048, .f32⟩
  | 57 => ⟨S_, .f32⟩
  | 58 => ⟨S8192x1, .f32⟩
  | 59 => ⟨S8192x1, .f32⟩
  | 60 => ⟨S8192x1, .f32⟩
  | 61 => ⟨S8192x2048, .f32⟩
  | 62 => ⟨S8192x2048, .f32⟩
  | 63 => ⟨S1x2048, .f32⟩
  | 64 => ⟨S8192x2048, .f32⟩
  | 65 => ⟨S8192x2048, .f32⟩
  | 66 => ⟨S1x2048, .f32⟩
  | 67 => ⟨S8192x2048, .f32⟩
  | 68 => ⟨S8192x2048, .f32⟩
  | _ => ⟨S8192x1, .f32⟩

abbrev hbmTy (i : Nat) : BufTy := match i / 128 with
  | 0 => hbmTy0_0 i
  | 1 => hbmTy0_1 i
  | 2 => hbmTy0_2 i
  | _ => ⟨S8192x1, .f32⟩

abbrev bufTy : (tb : Table) → Fin (tcTables nBuf tb) → BufTy
  | .hbm, ⟨i, _⟩ => hbmTy i
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_values : Ref sig .tc := ⟨.hbm, 35, rfl⟩
abbrev main_indices : Ref sig .tc := ⟨.hbm, 36, rfl⟩
abbrev main_cst_2 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_9 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_c_11 : Ref sig .tc := ⟨.hbm, 78, rfl⟩
abbrev main_v47 : Ref sig .tc := ⟨.hbm, 79, rfl⟩
abbrev main_v48 : Ref sig .tc := ⟨.hbm, 80, rfl⟩
abbrev main_c_12 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_c_13 : Ref sig .tc := ⟨.hbm, 85, rfl⟩
abbrev main_v52 : Ref sig .tc := ⟨.hbm, 86, rfl⟩
abbrev main_v53 : Ref sig .tc := ⟨.hbm, 87, rfl⟩
abbrev main_c_14 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_16 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_v79 : Ref sig .tc := ⟨.hbm, 117, rfl⟩
abbrev main_cst_18 : Ref sig .tc := ⟨.hbm, 118, rfl⟩
abbrev main_v80 : Ref sig .tc := ⟨.hbm, 119, rfl⟩
abbrev main_v81 : Ref sig .tc := ⟨.hbm, 120, rfl⟩
abbrev main_cst_19 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_call0_v0 : Ref sig .tc := ⟨.hbm, 219, rfl⟩
abbrev main_call0_v1 : Ref sig .tc := ⟨.hbm, 220, rfl⟩
abbrev main_call0_cst : Ref sig .tc := ⟨.hbm, 221, rfl⟩
abbrev main_call0_v2 : Ref sig .tc := ⟨.hbm, 222, rfl⟩
abbrev main_call0_v3 : Ref sig .tc := ⟨.hbm, 223, rfl⟩
abbrev main_call0_cst_0 : Ref sig .tc := ⟨.hbm, 224, rfl⟩
abbrev main_call0_v4 : Ref sig .tc := ⟨.hbm, 225, rfl⟩
abbrev main_call0_v5 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_cst_20 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_cst_21 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_cst_22 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_cst_23 : Ref sig .tc := ⟨.hbm, 279, rfl⟩
abbrev main_v228 : Ref sig .tc := ⟨.hbm, 280, rfl⟩
abbrev main_cst_24 : Ref sig .tc := ⟨.hbm, 281, rfl⟩
abbrev main_v229 : Ref sig .tc := ⟨.hbm, 282, rfl⟩
abbrev main_v230 : Ref sig .tc := ⟨.hbm, 283, rfl⟩
abbrev main_cst_25 : Ref sig .tc := ⟨.hbm, 284, rfl⟩
abbrev main_v231 : Ref sig .tc := ⟨.hbm, 285, rfl⟩
abbrev main_v232 : Ref sig .tc := ⟨.hbm, 286, rfl⟩
abbrev main_c_26 : Ref sig .tc := ⟨.hbm, 287, rfl⟩
abbrev main_call1_cst : Ref sig .tc := ⟨.hbm, 288, rfl⟩
abbrev main_call1_v0 : Ref sig .tc := ⟨.hbm, 289, rfl⟩
abbrev main_call1_v1 : Ref sig .tc := ⟨.hbm, 290, rfl⟩
abbrev main_call1_cst_0 : Ref sig .tc := ⟨.hbm, 291, rfl⟩
abbrev main_call1_v2 : Ref sig .tc := ⟨.hbm, 292, rfl⟩
abbrev main_call1_v3 : Ref sig .tc := ⟨.hbm, 293, rfl⟩
abbrev main_call1_v4 : Ref sig .tc := ⟨.hbm, 294, rfl⟩
abbrev main_call1_v5 : Ref sig .tc := ⟨.hbm, 295, rfl⟩
abbrev main_call1_v6 : Ref sig .tc := ⟨.hbm, 296, rfl⟩
abbrev main_call1_v7 : Ref sig .tc := ⟨.hbm, 297, rfl⟩
abbrev main_call1_cst_1 : Ref sig .tc := ⟨.hbm, 298, rfl⟩
abbrev main_call1_v8 : Ref sig .tc := ⟨.hbm, 299, rfl⟩
abbrev main_call1_cst_2 : Ref sig .tc := ⟨.hbm, 300, rfl⟩
abbrev main_call1_v9 : Ref sig .tc := ⟨.hbm, 301, rfl⟩
abbrev main_call1_v10 : Ref sig .tc := ⟨.hbm, 302, rfl⟩
abbrev main_call1_v11 : Ref sig .tc := ⟨.hbm, 303, rfl⟩
abbrev main_call1_v12 : Ref sig .tc := ⟨.hbm, 304, rfl⟩
abbrev main_call1_cst_3 : Ref sig .tc := ⟨.hbm, 305, rfl⟩
abbrev main_call1_v13 : Ref sig .tc := ⟨.hbm, 306, rfl⟩
abbrev main_call1_cst_4 : Ref sig .tc := ⟨.hbm, 307, rfl⟩
abbrev main_call1_call0_v0 : Ref sig .tc := ⟨.hbm, 308, rfl⟩
abbrev main_call1_call0_v1 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_cst_27 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩

abbrev nD : Nat := 1
abbrev τ : Topo := Topo.v7x

variable {F : FTy → Type} [FloatOps F]
-- ==== Proof.KernelBlock.lean ====
module

public import proofs.«01_k».proof.Proof.Gen.KernelIdeal.Frame
public import Idealize.ShloMosaic.Lib.Pipeline.Value
public import Idealize.ShloMosaic.Lib.Pipeline.ValueKit.Tiles
public import Idealize.ShloMosaic.Lib.Pipeline.ValueKit.Acc
public import Idealize.ShloMosaic.Lib.ValueIdx

/-! What one grid point of the kernel leaves: its three output blocks, over the scratch and the input blocks. -/

@[expose] public section

noncomputable section

namespace Cert.Proof.Block

open Idealize.ShloMosaic Idealize.ShloMosaic.TcCoe
open Cert.KernelIdeal Cert.KernelIdeal.Gen
open Cert.KernelIdeal (κ)

variable {F : FTy → Type} [FloatOps F] [Named F]
variable (m : (ℓ : Loc nD τ sig) → Buf (Elt F) ℓ)

/-- The origin is zero on both axes. -/
theorem hz : (![0, 0] : Fin 2 → Nat) = fun _ => 0 := funext fun a => by fin_cases a <;> rfl

section Routed

variable (t : Vec F S1x1024 .f32) (wa : Vec F S8x64 .f32) (aux : Vec F S1024x64 .f32) (wt bb : Vec F S8x1 .f32)

/-- Whether the first expert of each token is expert 1. -/
def pickA1 : IVec S1x1024 1 := k0_pay34 (k0_pay32 t wa aux wt bb) (k0_pay33 t wa aux wt bb)

/-- Whether the first expert of each token is expert 2. -/
def pickA2 : IVec S1x1024 1 :=
  k0_pay35 (k0_pay29 t wa aux wt bb) (k0_pay31 t wa aux wt bb) (k0_pay32 t wa aux wt bb) (k0_pay33 t wa aux wt bb)

/-- Whether the first expert of each token is expert 3. -/
def pickA3 : IVec S1x1024 1 :=
  k0_pay36 (k0_pay29 t wa aux wt bb) (k0_pay30 t wa aux wt bb) (k0_pay31 t wa aux wt bb) (k0_pay32 t wa aux wt bb)
    (k0_pay33 t wa aux wt bb)

/-- A payload of the softmax rows, the greatest and the first two selections. -/
abbrev onRows {V : Type} (f : FVec F S1x1024 .f32 → FVec F S1x1024 .f32 → FVec F S1x1024 .f32 → FVec F S1x1024 .f32 →
    FVec F S1x1024 .f32 → IVec S1x1024 1 → IVec S1x1024 1 → V) : V :=
  f (k0_pay27 t wa aux wt bb) (k0_pay28 t wa aux wt bb) (k0_pay29 t wa aux wt bb) (k0_pay30 t wa aux wt bb)
    (k0_pay31 t wa aux wt bb) (k0_pay32 t wa aux wt bb) (k0_pay33 t wa aux wt bb)

/-- The dispatch weights of expert 0. -/
def disp0 : FVec F S1x1024 .f32 :=
  k0_pay49 (k0_pay32 t wa aux wt bb) (onRows t wa aux wt bb k0_pay42) (onRows t wa aux wt bb k0_pay46)
    (Scalar.ofBits .f32 0x3F800000#32)

/-- The dispatch weights of expert 1. -/
def disp1 : FVec F S1x1024 .f32 :=
  k0_pay50 (pickA1 t wa aux wt bb) (onRows t wa aux wt bb k0_pay43) (onRows t wa aux wt bb k0_pay46)
    (Scalar.ofBits .f32 0x3F800000#32)

/-- The dispatch weights of expert 2. -/
def disp2 : FVec F S1x1024 .f32 :=
  k0_pay51 (pickA2 t wa aux wt bb) (onRows t wa aux wt bb k0_pay44) (onRows t wa aux wt bb k0_pay46)
    (Scalar.ofBits .f32 0x3F800000#32)

/-- The dispatch weights of expert 3. -/
def disp3 : FVec F S1x1024 .f32 :=
  k0_pay52 (pickA3 t wa aux wt bb) (onRows t wa aux wt bb k0_pay45) (onRows t wa aux wt bb k0_pay46)
    (Scalar.ofBits .f32 0x3F800000#32)

/-- The block of selection words. -/
def maskOf : Vec F S1024x4 .i32 :=
  k0_pay58 (k0_pay54 (F := F)) (k0_pay55 (F := F) (k0_pay32 t wa aux wt bb) (pickA1 t wa aux wt bb) (pickA2 t wa aux wt bb)
    (pickA3 t wa aux wt bb) (onRows t wa aux wt bb k0_pay42) (onRows t wa aux wt bb k0_pay43)
    (onRows t wa aux wt bb k0_pay44) (onRows t wa aux wt bb k0_pay45))

/-- The block of raw weights: the softmax rows, transposed. -/
def rawOf : Vec F S1024x4 .f32 :=
  k0_pay57 (k0_pay56 (k0_pay27 t wa aux wt bb) (k0_pay28 t wa aux wt bb) (k0_pay29 t wa aux wt bb) (k0_pay30 t wa aux wt bb))

variable (gls gc wsc wsh : Vec F S32x1 .f32)

/-- The spline argument of each row and token. -/
abbrev onKnots {V : Type} (f : FVec F S1x1024 .f32 → FVec F S16x1 .f32 → V) : V := f (k0_pay64 (k0_pay15 t)) (k0_pay65 (F := F))

/-- The block's basis rows, scaled to unit variance. -/
def basisOf (g : Vec F S144x144 .f32) : FVec F S144x1024 .f32 :=
  k0_pay75 (k0_pay15 t) (disp1 t wa aux wt bb) (k0_pay61 (k0_pay59 (k0_pay15 t)) (k0_pay60 (disp0 t wa aux wt bb)))
    (k0_pay62 (k0_pay15 t) (disp2 t wa aux wt bb) gls gc) (k0_pay63 (k0_pay15 t) (disp3 t wa aux wt bb) wsh wsc)
    (iota .tc S16x1 32 [0] iota_S16x1_d0_w32) (onKnots t k0_pay66) (onKnots t k0_pay69) (onKnots t k0_pay70)
    (onKnots t k0_pay71) (onKnots t k0_pay72) (onKnots t k0_pay73) (onKnots t k0_pay74) g

/-- The block of results. -/
def outOf (g : Vec F S144x144 .f32) (cc : Vec F S144x2048 .f32) : Vec F S1024x2048 .f32 :=
  k0_pay1 (basisOf t wa aux wt bb gls gc wsc wsh g) cc

end Routed

/-- The stacked coefficient rows: Fourier, Gaussian, wavelet, and the spline block. -/
def rowsOf (four : Vec F S64x2048 .f32) (gcf wcf : Vec F S32x2048 .f32) (spl : Vec F S16x2048 .f32) : Vec F S144x2048 .f32 :=
  fun i =>
    if h : (i 0).val < 64 then four (ValueIdx.ix2 ⟨(i 0).val, h⟩ (i 1))
    else if h' : (i 0).val < 96 then gcf (ValueIdx.ix2 ⟨(i 0).val - 64, by omega⟩ (i 1))
    else if h'' : (i 0).val < 128 then wcf (ValueIdx.ix2 ⟨(i 0).val - 96, by omega⟩ (i 1))
    else spl (ValueIdx.ix2 ⟨(i 0).val - 128, by have : (i 0).val < 144 := (i 0).isLt; omega⟩ (i 1))

/-- The router's weights of the auxiliary columns, one row per expert, padded to eight rows. -/
def waOf (w : Vec F S65x4 .f32) : Vec F S8x64 .f32 :=
  k0_pay10 (View.ld w (Rect.unit (s := S65x4) ![1, 0] S64x4.size inb_S65x4_S64x4_1_0))

/-- The router's weight of the time column, one row per expert, padded to eight rows. -/
def wtOf (w : Vec F S65x4 .f32) : Vec F S8x1 .f32 :=
  k0_pay12 (View.ld w (Rect.unit (s := S65x4) ![0, 0] S1x4.size inb_S65x4_S1x4_0_0))

/-- The router's bias, one row per expert, padded to eight rows. -/
def bbOf (b : Vec F S1x4 .f32) : Vec F S8x1 .f32 :=
  k0_pay14 (k0_pay9 (F := F)) (k0_pay11 (F := F)) (k0_pay13 b) (constant S4x1 .f32 0x00000000#32)

/-- The coefficient rows, each less its mean. -/
def ccOf (four : Vec F S64x2048 .f32) (gcf wcf : Vec F S32x2048 .f32) (spc : Vec F S11x2048 .f32) (ssp sbase : Vec F S1x2048 .f32) :
    Vec F S144x2048 .f32 :=
  k0_pay7 (k0_pay6 (rowsOf (k0_pay2 four) (k0_pay3 gcf) (k0_pay4 wcf) (k0_pay5 spc ssp sbase)))

/-- The Gram matrix of the centred coefficient rows. -/
def ggOf (four : Vec F S64x2048 .f32) (gcf wcf : Vec F S32x2048 .f32) (spc : Vec F S11x2048 .f32) (ssp sbase : Vec F S1x2048 .f32) :
    Vec F S144x144 .f32 :=
  k0_pay8 (k0_pay6 (rowsOf (k0_pay2 four) (k0_pay3 gcf) (k0_pay4 wcf) (k0_pay5 spc ssp sbase)))

/-- At a later point the selection words are those of its block, with the stored router. -/
theorem mask_B (c : Dev nD) (t : Fin cfg0.N) (h0 : ¬t.val % 8 = 0) :
    (outsAt0 m c t.val t.isLt).2.2.1 = maskOf (iblk m c 0 t) (outsAt0 m c (t.val - 1) (Nat.lt_of_le_of_lt (Nat.sub_le _ _) t.isLt)).2.2.2.2.2.1 (iblk m c 1 t)
      (outsAt0 m c (t.val - 1) (Nat.lt_of_le_of_lt (Nat.sub_le _ _) t.isLt)).2.2.2.2.2.2.1
      (outsAt0 m c (t.val - 1) (Nat.lt_of_le_of_lt (Nat.sub_le _ _) t.isLt)).2.2.2.2.2.2.2 := by
  rw [outsAt0_B m c t h0]
  dsimp only
  unfold out0_B_16
  rw [View.read_writes_eq_canon]
  swap
  · intro y; exact cover0_B_16 ..
  unfold kernelRun0_B
  dsimp only
  sl_unfold_words
  rw [View.canon_unit_zero hz]
  simp only [View.readAt_eq_ld, (Memref.isWhole_whole _).read_unread, (hs0_0 t).read_unread, (hs0_1 t).read_unread, (hs0_4 t).read_unread, (hs0_5 t).read_unread, (hs0_6 t).read_unread, (hs0_7 t).read_unread, View.ld_unit_zero (S := S1x1024) hz,
    View.ld_unit_zero (S := S1024x64) hz, View.ld_unit_zero (S := S8x64) hz, View.ld_unit_zero (S := S8x1) hz,
    View.ld_unit_zero (S := S32x1) hz, View.ld_unit_zero (S := S144x144) hz, View.ld_unit_zero (S := S144x2048) hz]
  rfl

/-- At a later point the router weights are those of its block, with the stored router. -/
theorem raw_B (c : Dev nD) (t : Fin cfg0.N) (h0 : ¬t.val % 8 = 0) :
    (outsAt0 m c t.val t.isLt).2.1 = rawOf (iblk m c 0 t) (outsAt0 m c (t.val - 1) (Nat.lt_of_le_of_lt (Nat.sub_le _ _) t.isLt)).2.2.2.2.2.1 (iblk m c 1 t)
      (outsAt0 m c (t.val - 1) (Nat.lt_of_le_of_lt (Nat.sub_le _ _) t.isLt)).2.2.2.2.2.2.1
      (outsAt0 m c (t.val - 1) (Nat.lt_of_le_of_lt (Nat.sub_le _ _) t.isLt)).2.2.2.2.2.2.2 := by
  rw [outsAt0_B m c t h0]
  dsimp only
  unfold out0_B_15
  rw [View.read_writes_eq_canon]
  swap
  · intro y; exact cover0_B_15 ..
  unfold kernelRun0_B
  dsimp only
  sl_unfold_words
  rw [View.canon_unit_zero hz]
  simp only [View.readAt_eq_ld, (Memref.isWhole_whole _).read_unread, (hs0_0 t).read_unread, (hs0_1 t).read_unread, (hs0_4 t).read_unread, (hs0_5 t).read_unread, (hs0_6 t).read_unread, (hs0_7 t).read_unread, View.ld_unit_zero (S := S1x1024) hz,
    View.ld_unit_zero (S := S1024x64) hz, View.ld_unit_zero (S := S8x64) hz, View.ld_unit_zero (S := S8x1) hz,
    View.ld_unit_zero (S := S32x1) hz, View.ld_unit_zero (S := S144x144) hz, View.ld_unit_zero (S := S144x2048) hz]
  rfl

/-- At a later point the combination is that of its block, with the stored router, matrix and rows. -/
theorem out_B (c : Dev nD) (t : Fin cfg0.N) (h0 : ¬t.val % 8 = 0) :
    (outsAt0 m c t.val t.isLt).1 = outOf (iblk m c 0 t) (outsAt0 m c (t.val - 1) (Nat.lt_of_le_of_lt (Nat.sub_le _ _) t.isLt)).2.2.2.2.2.1 (iblk m c 1 t)
      (outsAt0 m c (t.val - 1) (Nat.lt_of_le_of_lt (Nat.sub_le _ _) t.isLt)).2.2.2.2.2.2.1
      (outsAt0 m c (t.val - 1) (Nat.lt_of_le_of_lt (Nat.sub_le _ _) t.isLt)).2.2.2.2.2.2.2
      (iblk m c 4 t) (iblk m c 5 t) (iblk m c 6 t) (iblk m c 7 t)
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1 := by
  rw [outsAt0_B m c t h0]
  dsimp only
  unfold out0_B_14
  rw [View.read_writes_eq_canon]
  swap
  · intro y; exact cover0_B_14 ..
  unfold kernelRun0_B
  dsimp only
  sl_unfold_words
  rw [View.canon_unit_zero hz]
  simp only [View.readAt_eq_ld, (Memref.isWhole_whole _).read_unread, (hs0_0 t).read_unread, (hs0_1 t).read_unread, (hs0_4 t).read_unread, (hs0_5 t).read_unread, (hs0_6 t).read_unread, (hs0_7 t).read_unread, View.ld_unit_zero (S := S1x1024) hz,
    View.ld_unit_zero (S := S1024x64) hz, View.ld_unit_zero (S := S8x64) hz, View.ld_unit_zero (S := S8x1) hz,
    View.ld_unit_zero (S := S32x1) hz, View.ld_unit_zero (S := S144x144) hz, View.ld_unit_zero (S := S144x2048) hz]
  rfl

/-- A later point leaves the five stored buffers as they were. -/
theorem scratch_B (c : Dev nD) (t : Fin cfg0.N) (h0 : ¬t.val % 8 = 0) :
    (outsAt0 m c t.val t.isLt).2.2.2
      = (outsAt0 m c (t.val - 1) (Nat.lt_of_le_of_lt (Nat.sub_le _ _) t.isLt)).2.2.2 := by
  rw [outsAt0_B m c t h0]
  dsimp only
  unfold sout0_B_0 sout0_B_1 sout0_B_2 sout0_B_3 sout0_B_4
  rfl

end Cert.Proof.Block

end
-- ==== Proof.KernelFirst.lean ====
module

public import proofs.«01_k».proof.Proof.KernelBlock

@[expose] public section

noncomputable section

namespace Cert.Proof.Block

open Idealize.ShloMosaic Idealize.ShloMosaic.TcCoe
open Cert.KernelIdeal Cert.KernelIdeal.Gen
open Cert.KernelIdeal (κ)

variable {F : FTy → Type} [FloatOps F] [Named F]
variable (m : (ℓ : Loc nD τ sig) → Buf (Elt F) ℓ)

/-- A whole load after a last whole store reads that store's payload. -/
theorem readCov_cons_full {S : Shape} {e : EltTy} (v : View sig .tc .vmem S e) {off : Fin S.rank → ℕ} (h : off = fun _ => 0)
    (inb : ∀ a, off a + S.size a ≤ S.size a) (w : Vec F S e) (L : List (View.Piece (Elt F) S e)) :
    v.readCov ((⟨Rect.unit off S.size inb, w⟩ : View.Piece (Elt F) S e) :: L) (Rect.unit off S.size inb).toLoadRect = w :=
  View.readCov_cons_unit_lit' v inb inb w L (fun a => congrFun h a) (fun a => congrFun h a)

/-- The four stores of the coefficient rows leave the stacked rows. -/
theorem canon_rows (four : Vec F S64x2048 .f32) (gcf wcf : Vec F S32x2048 .f32)
    (spl : Vec F S16x2048 .f32) (j : S144x2048.Idx) :
    View.canon [(⟨Rect.unit (s := S144x2048) ![128, 0] S16x2048.size inb_S144x2048_S16x2048_128_0, spl⟩ : View.Piece (Elt F) S144x2048 .f32),
      ⟨Rect.unit (s := S144x2048) ![96, 0] S32x2048.size inb_S144x2048_S32x2048_96_0, wcf⟩,
      ⟨Rect.unit (s := S144x2048) ![64, 0] S32x2048.size inb_S144x2048_S32x2048_64_0, gcf⟩,
      ⟨Rect.unit (s := S144x2048) ![0, 0] S64x2048.size inb_S144x2048_S64x2048_0_0, four⟩] j = rowsOf four gcf wcf spl j := by
  have hlt : (j 0).val < 144 := (j 0).isLt
  have hlt1 : (j 1).val < 2048 := (j 1).isLt
  have hmem : ∀ (o n : ℕ) (inb) (_ : o ≤ (j 0).val) (_ : (j 0).val < o + n),
      j ∈ (Rect.unit (s := S144x2048) ![o, 0] ![n, 2048] inb).set := fun o n inb h h' =>
    Rect.mem_set_unit.mpr (Fin.forall_fin_two.mpr ⟨⟨h, h'⟩, ⟨Nat.zero_le _, by show (j 1).val < 0 + 2048; omega⟩⟩)
  refine View.canon_eq_of_allAt _ j _ ?_ ?_
  · by_cases h : (j 0).val < 64
    · exact ⟨_, .tail _ (.tail _ (.tail _ (.head _))), hmem 0 64 inb_S144x2048_S64x2048_0_0 (Nat.zero_le _) (by omega)⟩
    by_cases h' : (j 0).val < 96
    · exact ⟨_, .tail _ (.tail _ (.head _)), hmem 64 32 inb_S144x2048_S32x2048_64_0 (by omega) (by omega)⟩
    by_cases h'' : (j 0).val < 128
    · exact ⟨_, .tail _ (.head _), hmem 96 32 inb_S144x2048_S32x2048_96_0 (by omega) (by omega)⟩
    · exact ⟨_, .head _, hmem 128 16 inb_S144x2048_S16x2048_128_0 (by omega) (by omega)⟩
  · refine View.allAt_cons_unit _ _ _ _ _ ?_ (View.allAt_cons_unit _ _ _ _ _ ?_ (View.allAt_cons_unit _ _ _ _ _ ?_
      (View.allAt_cons_unit _ _ _ _ _ ?_ (View.allAt_nil _ _))))
    · intro x hx
      have hx0 : (j 0).val = 128 + (x 0).val := hx 0
      have hx1 : (j 1).val = 0 + (x 1).val := hx 1
      have hb : (x 0).val < 16 := (x 0).isLt
      unfold rowsOf
      rw [dif_neg (by omega), dif_neg (by omega), dif_neg (by omega)]
      exact congrArg spl (funext (Fin.forall_fin_two.mpr ⟨Fin.ext (by show (x 0).val = (j 0).val - 128; omega), Fin.ext (by show (x 1).val = (j 1).val; omega)⟩))
    · intro x hx
      have hx0 : (j 0).val = 96 + (x 0).val := hx 0
      have hx1 : (j 1).val = 0 + (x 1).val := hx 1
      have hb : (x 0).val < 32 := (x 0).isLt
      unfold rowsOf
      rw [dif_neg (by omega), dif_neg (by omega), dif_pos (by omega)]
      exact congrArg wcf (funext (Fin.forall_fin_two.mpr ⟨Fin.ext (by show (x 0).val = (j 0).val - 96; omega), Fin.ext (by show (x 1).val = (j 1).val; omega)⟩))
    · intro x hx
      have hx0 : (j 0).val = 64 + (x 0).val := hx 0
      have hx1 : (j 1).val = 0 + (x 1).val := hx 1
      have hb : (x 0).val < 32 := (x 0).isLt
      unfold rowsOf
      rw [dif_neg (by omega), dif_pos (by omega)]
      exact congrArg gcf (funext (Fin.forall_fin_two.mpr ⟨Fin.ext (by show (x 0).val = (j 0).val - 64; omega), Fin.ext (by show (x 1).val = (j 1).val; omega)⟩))
    · intro x hx
      have hx0 : (j 0).val = 0 + (x 0).val := hx 0
      have hx1 : (j 1).val = 0 + (x 1).val := hx 1
      have hb : (x 0).val < 64 := (x 0).isLt
      unfold rowsOf
      rw [dif_pos (by omega)]
      exact congrArg four (funext (Fin.forall_fin_two.mpr ⟨Fin.ext (by show (x 0).val = (j 0).val; omega), Fin.ext (by show (x 1).val = (j 1).val; omega)⟩))

/-- The four stores of the coefficient rows, read back whole. -/
theorem rows_readCov (v : View sig .tc .vmem S144x2048 .f32) (four : Vec F S64x2048 .f32) (gcf wcf : Vec F S32x2048 .f32)
    (spl : Vec F S16x2048 .f32) :
    v.readCov [(⟨Rect.unit (s := S144x2048) ![128, 0] S16x2048.size inb_S144x2048_S16x2048_128_0, spl⟩ : View.Piece (Elt F) S144x2048 .f32),
      ⟨Rect.unit (s := S144x2048) ![96, 0] S32x2048.size inb_S144x2048_S32x2048_96_0, wcf⟩,
      ⟨Rect.unit (s := S144x2048) ![64, 0] S32x2048.size inb_S144x2048_S32x2048_64_0, gcf⟩,
      ⟨Rect.unit (s := S144x2048) ![0, 0] S64x2048.size inb_S144x2048_S64x2048_0_0, four⟩]
      (Rect.unit (s := S144x2048) ![0, 0] S144x2048.size inb_S144x2048_S144x2048_0_0).toLoadRect = rowsOf four gcf wcf spl := by
  rw [View.readCov_eq_canon']
  funext j
  rw [canon_rows]
  congr 1
  funext a
  exact Fin.ext (by fin_cases a <;> simp [Rect.toLoadRect, LoadRect.idx])

/-- The first point stores the time's router weights. -/
theorem wt_A (c : Dev nD) (t : Fin cfg0.N) (h0 : t.val % 8 = 0) :
    (outsAt0 m c t.val t.isLt).2.2.2.2.2.2.1 = wtOf (iblk m c 2 t) := by
  rw [outsAt0_A m c t h0]
  dsimp only
  unfold sout0_A_3
  rw [View.read_writes_eq_canon]
  swap
  · intro y; exact scover0_A_3 ..
  unfold kernelRun0_A
  dsimp only
  sl_unfold_words
  rw [View.canon_unit_zero hz]
  rw [View.readAt_eq_ld, (hs0_2 t).read_unread]
  rfl

/-- The first point stores the auxiliary features' router weights. -/
theorem wa_A (c : Dev nD) (t : Fin cfg0.N) (h0 : t.val % 8 = 0) :
    (outsAt0 m c t.val t.isLt).2.2.2.2.2.1 = waOf (iblk m c 2 t) := by
  rw [outsAt0_A m c t h0]
  dsimp only
  unfold sout0_A_2
  rw [View.read_writes_eq_canon]
  swap
  · intro y; exact scover0_A_2 ..
  unfold kernelRun0_A
  dsimp only
  sl_unfold_words
  rw [View.canon_unit_zero hz]
  rw [View.readAt_eq_ld, (hs0_2 t).read_unread]
  rfl

/-- The first point stores the router's bias. -/
theorem bb_A (c : Dev nD) (t : Fin cfg0.N) (h0 : t.val % 8 = 0) :
    (outsAt0 m c t.val t.isLt).2.2.2.2.2.2.2 = bbOf (iblk m c 3 t) := by
  rw [outsAt0_A m c t h0]
  dsimp only
  unfold sout0_A_4
  rw [View.read_writes_eq_canon]
  swap
  · intro y; exact scover0_A_4 ..
  unfold kernelRun0_A
  dsimp only
  sl_unfold_words
  rw [View.canon_unit_zero hz]
  rw [View.readAt_eq_ld, (hs0_3 t).read_unread]
  simp only [View.ld_unit_zero (S := S1x4) hz]
  rfl

/-- The first point stores the centred coefficient rows. -/
theorem cc_A (c : Dev nD) (t : Fin cfg0.N) (h0 : t.val % 8 = 0) :
    (outsAt0 m c t.val t.isLt).2.2.2.2.1 = ccOf (iblk m c 8 t) (iblk m c 9 t) (iblk m c 10 t) (iblk m c 11 t) (iblk m c 12 t) (iblk m c 13 t) := by
  rw [outsAt0_A m c t h0]
  dsimp only
  unfold sout0_A_1
  rw [View.read_writes_eq_canon]
  swap
  · intro y; exact scover0_A_1 ..
  unfold kernelRun0_A
  dsimp only
  sl_unfold_words
  rw [View.canon_cons_unit_zero hz]
  rw [rows_readCov]
  simp only [View.readAt_eq_ld]
  rw [(hs0_8 t).read_unread, (hs0_9 t).read_unread, (hs0_10 t).read_unread, (hs0_11 t).read_unread,
    (hs0_12 t).read_unread, (hs0_13 t).read_unread]
  rw [View.ld_unit_zero (S := S64x2048) hz, View.ld_unit_zero (S := S32x2048) hz, View.ld_unit_zero (S := S32x2048) hz,
    View.ld_unit_zero (S := S11x2048) hz, View.ld_unit_zero (S := S1x2048) hz, View.ld_unit_zero (S := S1x2048) hz]
  rfl

/-- The first point stores the Gram matrix of the centred rows. -/
theorem gg_A (c : Dev nD) (t : Fin cfg0.N) (h0 : t.val % 8 = 0) :
    (outsAt0 m c t.val t.isLt).2.2.2.1 = ggOf (iblk m c 8 t) (iblk m c 9 t) (iblk m c 10 t) (iblk m c 11 t) (iblk m c 12 t) (iblk m c 13 t) := by
  rw [outsAt0_A m c t h0]
  dsimp only
  unfold sout0_A_0
  rw [View.read_writes_eq_canon]
  swap
  · intro y; exact scover0_A_0 ..
  unfold kernelRun0_A
  dsimp only
  sl_unfold_words
  rw [View.canon_unit_zero hz]
  rw [rows_readCov]
  simp only [View.readAt_eq_ld]
  rw [(hs0_8 t).read_unread, (hs0_9 t).read_unread, (hs0_10 t).read_unread, (hs0_11 t).read_unread,
    (hs0_12 t).read_unread, (hs0_13 t).read_unread]
  rw [View.ld_unit_zero (S := S64x2048) hz, View.ld_unit_zero (S := S32x2048) hz, View.ld_unit_zero (S := S32x2048) hz,
    View.ld_unit_zero (S := S11x2048) hz, View.ld_unit_zero (S := S1x2048) hz, View.ld_unit_zero (S := S1x2048) hz]
  rfl

/-- At the first point the selection words are those of its block, with the router it stored. -/
theorem mask_A (c : Dev nD) (t : Fin cfg0.N) (h0 : t.val % 8 = 0) :
    (outsAt0 m c t.val t.isLt).2.2.1 = maskOf (iblk m c 0 t) (waOf (iblk m c 2 t)) (iblk m c 1 t) (wtOf (iblk m c 2 t))
      (bbOf (iblk m c 3 t)) := by
  rw [outsAt0_A m c t h0]
  dsimp only
  unfold out0_A_16
  rw [View.read_writes_eq_canon]
  swap
  · intro y; exact cover0_A_16 ..
  unfold kernelRun0_A
  dsimp only
  sl_unfold_words
  rw [View.canon_unit_zero hz]
  simp only [View.readAt_eq_ld]
  rw [View.readCov_unit_zero (S := S8x64) _ hz, View.readCov_unit_zero (S := S8x1) _ hz, View.readCov_unit_zero (S := S8x1) _ hz]
  rw [(hs0_0 t).read_unread, (hs0_1 t).read_unread, (hs0_2 t).read_unread, (hs0_3 t).read_unread]
  rw [View.ld_unit_zero (S := S1x1024) hz, View.ld_unit_zero (S := S1024x64) hz, View.ld_unit_zero (S := S1x4) hz]
  rfl

/-- At the first point the router weights are those of its block, with the router it stored. -/
theorem raw_A (c : Dev nD) (t : Fin cfg0.N) (h0 : t.val % 8 = 0) :
    (outsAt0 m c t.val t.isLt).2.1 = rawOf (iblk m c 0 t) (waOf (iblk m c 2 t)) (iblk m c 1 t) (wtOf (iblk m c 2 t))
      (bbOf (iblk m c 3 t)) := by
  rw [outsAt0_A m c t h0]
  dsimp only
  unfold out0_A_15
  rw [View.read_writes_eq_canon]
  swap
  · intro y; exact cover0_A_15 ..
  unfold kernelRun0_A
  dsimp only
  sl_unfold_words
  rw [View.canon_unit_zero hz]
  simp only [View.readAt_eq_ld]
  rw [View.readCov_unit_zero (S := S8x64) _ hz, View.readCov_unit_zero (S := S8x1) _ hz, View.readCov_unit_zero (S := S8x1) _ hz]
  rw [(hs0_0 t).read_unread, (hs0_1 t).read_unread, (hs0_2 t).read_unread, (hs0_3 t).read_unread]
  rw [View.ld_unit_zero (S := S1x1024) hz, View.ld_unit_zero (S := S1024x64) hz, View.ld_unit_zero (S := S1x4) hz]
  rfl

set_option maxHeartbeats 2000000 in
/-- At the first point the combination is that of its block, with the router, the matrix and the rows it stored. -/
theorem out_A (c : Dev nD) (t : Fin cfg0.N) (h0 : t.val % 8 = 0) :
    (outsAt0 m c t.val t.isLt).1 = outOf (iblk m c 0 t) (waOf (iblk m c 2 t)) (iblk m c 1 t) (wtOf (iblk m c 2 t))
      (bbOf (iblk m c 3 t)) (iblk m c 4 t) (iblk m c 5 t) (iblk m c 6 t) (iblk m c 7 t)
      (ggOf (iblk m c 8 t) (iblk m c 9 t) (iblk m c 10 t) (iblk m c 11 t) (iblk m c 12 t) (iblk m c 13 t))
      (ccOf (iblk m c 8 t) (iblk m c 9 t) (iblk m c 10 t) (iblk m c 11 t) (iblk m c 12 t) (iblk m c 13 t)) := by
  rw [outsAt0_A m c t h0]
  dsimp only
  unfold out0_A_14
  rw [View.read_writes_eq_canon]
  swap
  · intro y; exact cover0_A_14 ..
  unfold kernelRun0_A
  dsimp only
  sl_unfold_words
  rw [View.canon_unit_zero hz]
  rw [View.readCov_unit_zero (S := S144x144) _ hz, readCov_cons_full (S := S144x2048) (off := ![0, 0]) _ hz, rows_readCov]
  simp only [View.readAt_eq_ld]
  rw [View.readCov_unit_zero (S := S8x64) _ hz, View.readCov_unit_zero (S := S8x1) _ hz, View.readCov_unit_zero (S := S8x1) _ hz]
  rw [(hs0_0 t).read_unread, (hs0_1 t).read_unread, (hs0_2 t).read_unread, (hs0_3 t).read_unread]
  rw [(hs0_4 t).read_unread, (hs0_5 t).read_unread, (hs0_6 t).read_unread, (hs0_7 t).read_unread,
    (hs0_8 t).read_unread, (hs0_9 t).read_unread, (hs0_10 t).read_unread, (hs0_11 t).read_unread,
    (hs0_12 t).read_unread, (hs0_13 t).read_unread]
  generalize (iblk m c 0 t : Vec F S1x1024 .f32) = x0
  generalize (iblk m c 1 t : Vec F S1024x64 .f32) = x1
  generalize (iblk m c 2 t : Vec F S65x4 .f32) = x2
  generalize (iblk m c 3 t : Vec F S1x4 .f32) = x3
  generalize (iblk m c 4 t : Vec F S32x1 .f32) = x4
  generalize (iblk m c 5 t : Vec F S32x1 .f32) = x5
  generalize (iblk m c 6 t : Vec F S32x1 .f32) = x6
  generalize (iblk m c 7 t : Vec F S32x1 .f32) = x7
  generalize (iblk m c 8 t : Vec F S64x2048 .f32) = x8
  generalize (iblk m c 9 t : Vec F S32x2048 .f32) = x9
  generalize (iblk m c 10 t : Vec F S32x2048 .f32) = x10
  generalize (iblk m c 11 t : Vec F S11x2048 .f32) = x11
  generalize (iblk m c 12 t : Vec F S1x2048 .f32) = x12
  generalize (iblk m c 13 t : Vec F S1x2048 .f32) = x13
  rw [View.ld_unit_zero (S := S1x1024) hz _ x0,
    View.ld_unit_zero (S := S1024x64) hz _ x1,
    View.ld_unit_zero (S := S1x4) hz _ x3,
    View.ld_unit_zero (S := S32x1) hz _ x4,
    View.ld_unit_zero (S := S32x1) hz _ x5,
    View.ld_unit_zero (S := S32x1) hz _ x6,
    View.ld_unit_zero (S := S32x1) hz _ x7,
    View.ld_unit_zero (S := S64x2048) hz _ x8,
    View.ld_unit_zero (S := S32x2048) hz _ x9,
    View.ld_unit_zero (S := S32x2048) hz _ x10,
    View.ld_unit_zero (S := S11x2048) hz _ x11,
    View.ld_unit_zero (S := S1x2048) hz _ x12,
    View.ld_unit_zero (S := S1x2048) hz _ x13]
  rfl

end Cert.Proof.Block

end
-- ==== Proof.KernelRun.lean ====
module

public import proofs.«01_k».proof.Proof.KernelFirst
public import Idealize.ShloMosaic.Lib.ValueLayout
public import Idealize.ShloMosaic.Lib.ValueLayoutCasts

/-! The kernel's three results, entry by entry, over the argument arrays. -/

@[expose] public section

noncomputable section

namespace Cert.Proof.Block

open Idealize.ShloMosaic Idealize.ShloMosaic.TcCoe Idealize.SL.Sem
open Cert.KernelIdeal Cert.KernelIdeal.Gen
open Idealize.ShloMosaic.Pipeline (Dat Cfg Window)

variable {F : FTy → Type} [FloatOps F] [Named F]
variable (m : (ℓ : Loc nD τ sig) → Buf (Elt F) ℓ) (ρ : Dev nD → PrngReg)

/-! ## The input blocks -/

/-- The blocks of time points: one row holding the tokens of the point. -/
theorem blk0 (c : Dev nD) (t : Fin cfg0.N) (j : Fin 1024) (h : t.val * 1024 + j.val < 8192) :
    (iblk m c 0 t : Vec F S1x1024 .f32) (ValueIdx.ix2 0 j)
      = (V m c main_v0 : Vec F S1x8192 .f32) (ValueIdx.ix2 0 ⟨t.val * 1024 + j.val, h⟩) := by
  have hi : win0_0.index t 0 = 0 ∧ win0_0.index t 1 = t.val := by
    rcases fin_N0 t with rfl | rfl | rfl | rfl | rfl | rfl | rfl | rfl <;> decide
  unfold iblk
  rw [View.read_apply]
  show V m c main_v0 _ = V m c main_v0 _
  congr 1
  funext a
  apply Fin.ext
  match a with
  | ⟨0, _⟩ => show win0_0.index t 0 * 1 + 1 * 0 = 0; rw [hi.1]
  | ⟨1, _⟩ => show win0_0.index t 1 * 1024 + 1 * j.val = t.val * 1024 + j.val; rw [hi.2]; omega

/-- The blocks of auxiliary rows: the tokens of the point. -/
theorem blk1 (c : Dev nD) (t : Fin cfg0.N) (j : Fin 1024) (k : Fin 64) (h : t.val * 1024 + j.val < 8192) :
    (iblk m c 1 t : Vec F S1024x64 .f32) (ValueIdx.ix2 j k)
      = (m ((c : Thread nD τ).loc main_arg1) : Vec F S8192x64 .f32) (ValueIdx.ix2 ⟨t.val * 1024 + j.val, h⟩ k) := by
  have hi : win0_1.index t 0 = t.val ∧ win0_1.index t 1 = 0 := by
    rcases fin_N0 t with rfl | rfl | rfl | rfl | rfl | rfl | rfl | rfl <;> decide
  rw [← V_main_arg1 m c]
  unfold iblk
  rw [View.read_apply]
  show V m c main_arg1 _ = V m c main_arg1 _
  congr 1
  funext a
  apply Fin.ext
  match a with
  | ⟨0, _⟩ => show win0_1.index t 0 * 1024 + 1 * j.val = t.val * 1024 + j.val; rw [hi.1]; omega
  | ⟨1, _⟩ => show win0_1.index t 1 * 64 + 1 * k.val = k.val; rw [hi.2]; omega

/-- A block as large as its array, at the array's start, is the array. -/
theorem read_whole (b : Ref sig .tc) {off : Fin b.ty.shape.rank → ℕ} (h : off = fun _ => 0)
    (inb : ∀ a, off a + b.ty.shape.size a ≤ b.ty.shape.size a) (f : b.ty.Contents (Elt F)) :
    ((Memref.whole b).access (Rect.unit off b.ty.shape.size inb) : View sig .tc _ _ _).read (Elt F) f = f :=
  Memref.read_access_unit_zero (Elt F) b h inb f

/-- Block indices that are all zero put the block at the array's start. -/
theorem start {b : Ref sig .tc} {n : Fin b.ty.shape.rank → ℕ} (h : ∀ a, n a = 0) : (fun a => n a * b.ty.shape.size a) = fun _ => 0 :=
  funext fun a => by rw [h a, Nat.zero_mul]

/-- The router's weights come whole at every point. -/
theorem blk2 (c : Dev nD) (t : Fin cfg0.N) : iblk m c 2 t = V m c main_arg2 :=
  read_whole main_arg2 (start (b := main_arg2) (n := win0_2.index t) (Fin.forall_fin_two.mpr ⟨rfl, rfl⟩)) _ (V m c main_arg2)

/-- The router's biases come whole at every point. -/
theorem blk3 (c : Dev nD) (t : Fin cfg0.N) : iblk m c 3 t = V m c main_v1 :=
  read_whole main_v1 (start (b := main_v1) (n := win0_3.index t) (Fin.forall_fin_two.mpr ⟨rfl, rfl⟩)) _ (V m c main_v1)

/-- The logarithms of the widths come whole at every point. -/
theorem blk4 (c : Dev nD) (t : Fin cfg0.N) : iblk m c 4 t = V m c main_v2 :=
  read_whole main_v2 (start (b := main_v2) (n := win0_4.index t) (Fin.forall_fin_two.mpr ⟨rfl, rfl⟩)) _ (V m c main_v2)

/-- The centres come whole at every point. -/
theorem blk5 (c : Dev nD) (t : Fin cfg0.N) : iblk m c 5 t = V m c main_v3 :=
  read_whole main_v3 (start (b := main_v3) (n := win0_5.index t) (Fin.forall_fin_two.mpr ⟨rfl, rfl⟩)) _ (V m c main_v3)

/-- The wavelets' scales come whole at every point. -/
theorem blk6 (c : Dev nD) (t : Fin cfg0.N) : iblk m c 6 t = V m c main_v4 :=
  read_whole main_v4 (start (b := main_v4) (n := win0_6.index t) (Fin.forall_fin_two.mpr ⟨rfl, rfl⟩)) _ (V m c main_v4)

/-- The wavelets' shifts come whole at every point. -/
theorem blk7 (c : Dev nD) (t : Fin cfg0.N) : iblk m c 7 t = V m c main_v5 :=
  read_whole main_v5 (start (b := main_v5) (n := win0_7.index t) (Fin.forall_fin_two.mpr ⟨rfl, rfl⟩)) _ (V m c main_v5)

/-- The Fourier coefficients come whole at every point. -/
theorem blk8 (c : Dev nD) (t : Fin cfg0.N) : iblk m c 8 t = V m c main_arg4 :=
  read_whole main_arg4 (start (b := main_arg4) (n := win0_8.index t) (Fin.forall_fin_two.mpr ⟨rfl, rfl⟩)) _ (V m c main_arg4)

/-- The Gaussian coefficients come whole at every point. -/
theorem blk9 (c : Dev nD) (t : Fin cfg0.N) : iblk m c 9 t = V m c main_arg10 :=
  read_whole main_arg10 (start (b := main_arg10) (n := win0_9.index t) (Fin.forall_fin_two.mpr ⟨rfl, rfl⟩)) _ (V m c main_arg10)

/-- The wavelet coefficients come whole at every point. -/
theorem blk10 (c : Dev nD) (t : Fin cfg0.N) : iblk m c 10 t = V m c main_arg13 :=
  read_whole main_arg13 (start (b := main_arg13) (n := win0_10.index t) (Fin.forall_fin_two.mpr ⟨rfl, rfl⟩)) _ (V m c main_arg13)

/-- The spline coefficients come whole at every point. -/
theorem blk11 (c : Dev nD) (t : Fin cfg0.N) : iblk m c 11 t = V m c main_arg5 :=
  read_whole main_arg5 (start (b := main_arg5) (n := win0_11.index t) (Fin.forall_fin_two.mpr ⟨rfl, rfl⟩)) _ (V m c main_arg5)

/-- The spline scales come whole at every point. -/
theorem blk12 (c : Dev nD) (t : Fin cfg0.N) : iblk m c 12 t = V m c main_v6 :=
  read_whole main_v6 (start (b := main_v6) (n := win0_12.index t) (Fin.forall_fin_two.mpr ⟨rfl, rfl⟩)) _ (V m c main_v6)

/-- The base scales come whole at every point. -/
theorem blk13 (c : Dev nD) (t : Fin cfg0.N) : iblk m c 13 t = V m c main_v7 :=
  read_whole main_v7 (start (b := main_v7) (n := win0_13.index t) (Fin.forall_fin_two.mpr ⟨rfl, rfl⟩)) _ (V m c main_v7)

/-- The host's reshape of argument 0. -/
theorem V_main_v0 (c : Dev nD) : V m c main_v0 = shapeCast S1x8192 (m ((c : Thread nD τ).loc main_arg0)) shapeCasts_S8192x1_S1x8192 := by
  show StableHlo.after hostOps0 _ (Proc.devRef .tc main_v0) = _
  after_results
  rfl

/-- The host's reshape of argument 3. -/
theorem V_main_v1 (c : Dev nD) : V m c main_v1 = shapeCast S1x4 (m ((c : Thread nD τ).loc main_arg3)) shapeCasts_S4_S1x4 := by
  show StableHlo.after hostOps0 _ (Proc.devRef .tc main_v1) = _
  after_results
  rfl

/-- The host's reshape of argument 9. -/
theorem V_main_v2 (c : Dev nD) : V m c main_v2 = shapeCast S32x1 (m ((c : Thread nD τ).loc main_arg9)) shapeCasts_S32_S32x1 := by
  show StableHlo.after hostOps0 _ (Proc.devRef .tc main_v2) = _
  after_results
  rfl

/-- The host's reshape of argument 8. -/
theorem V_main_v3 (c : Dev nD) : V m c main_v3 = shapeCast S32x1 (m ((c : Thread nD τ).loc main_arg8)) shapeCasts_S32_S32x1 := by
  show StableHlo.after hostOps0 _ (Proc.devRef .tc main_v3) = _
  after_results
  rfl

/-- The host's reshape of argument 11. -/
theorem V_main_v4 (c : Dev nD) : V m c main_v4 = shapeCast S32x1 (m ((c : Thread nD τ).loc main_arg11)) shapeCasts_S32_S32x1 := by
  show StableHlo.after hostOps0 _ (Proc.devRef .tc main_v4) = _
  after_results
  rfl

/-- The host's reshape of argument 12. -/
theorem V_main_v5 (c : Dev nD) : V m c main_v5 = shapeCast S32x1 (m ((c : Thread nD τ).loc main_arg12)) shapeCasts_S32_S32x1 := by
  show StableHlo.after hostOps0 _ (Proc.devRef .tc main_v5) = _
  after_results
  rfl

/-- The host's reshape of argument 7. -/
theorem V_main_v6 (c : Dev nD) : V m c main_v6 = shapeCast S1x2048 (m ((c : Thread nD τ).loc main_arg7)) shapeCasts_S2048_S1x2048 := by
  show StableHlo.after hostOps0 _ (Proc.devRef .tc main_v6) = _
  after_results
  rfl

/-- The host's reshape of argument 6. -/
theorem V_main_v7 (c : Dev nD) : V m c main_v7 = shapeCast S1x2048 (m ((c : Thread nD τ).loc main_arg6)) shapeCasts_S2048_S1x2048 := by
  show StableHlo.after hostOps0 _ (Proc.devRef .tc main_v7) = _
  after_results
  rfl

/-! ## The points -/

/-- The point of a token. -/
def point (i : Fin 8192) : Fin cfg0.N := ⟨i.val / 1024, by rw [show cfg0.N = 8 from N_0]; omega⟩

/-- The token's place within its point's block. -/
def inner (i : Fin 8192) : Fin 1024 := ⟨i.val % 1024, Nat.mod_lt _ (by decide)⟩

/-- A token's number is its point's block start and its place in the block. -/
theorem point_inner (i : Fin 8192) : (point i).val * 1024 + (inner i).val = i.val := by
  show i.val / 1024 * 1024 + i.val % 1024 = i.val
  omega

/-- The five scratch arrays the first point fills. -/
def kept (c : Dev nD) : Vec F S144x144 .f32 × Vec F S144x2048 .f32 × Vec F S8x64 .f32 × Vec F S8x1 .f32 × Vec F S8x1 .f32 :=
  (ggOf (V m c main_arg4) (V m c main_arg10) (V m c main_arg13) (V m c main_arg5) (V m c main_v6) (V m c main_v7),
    ccOf (V m c main_arg4) (V m c main_arg10) (V m c main_arg13) (V m c main_arg5) (V m c main_v6) (V m c main_v7),
    waOf (V m c main_arg2), wtOf (V m c main_arg2), bbOf (V m c main_v1))

/-- Every point leaves the scratch arrays as the first one filled them. -/
theorem kept_eq (c : Dev nD) : ∀ (n : ℕ) (h : n < cfg0.N), (outsAt0 m c n h).2.2.2 = kept m c
  | 0, h => by
    have h0 : (⟨0, h⟩ : Fin cfg0.N).val % 8 = 0 := rfl
    have e1 := gg_A m c ⟨0, h⟩ h0
    have e2 := cc_A m c ⟨0, h⟩ h0
    have e3 := wa_A m c ⟨0, h⟩ h0
    have e4 := wt_A m c ⟨0, h⟩ h0
    have e5 := bb_A m c ⟨0, h⟩ h0
    rw [blk8, blk9, blk10, blk11, blk12, blk13] at e1 e2
    rw [blk2] at e3 e4
    rw [blk3] at e5
    exact Prod.ext e1 (Prod.ext e2 (Prod.ext e3 (Prod.ext e4 e5)))
  | n + 1, h => by
    have hN : cfg0.N = 8 := N_0
    have hB : ¬(⟨n + 1, h⟩ : Fin cfg0.N).val % 8 = 0 := by dsimp only; omega
    exact (scratch_B m c ⟨n + 1, h⟩ hB).trans (kept_eq c n _)

/-- Every point's block of selection words. -/
theorem mask_eq (c : Dev nD) (t : Fin cfg0.N) : (outsAt0 m c t.val t.isLt).2.2.1
    = maskOf (iblk m c 0 t) (waOf (V m c main_arg2)) (iblk m c 1 t) (wtOf (V m c main_arg2)) (bbOf (V m c main_v1)) := by
  by_cases h0 : t.val % 8 = 0
  · rw [mask_A m c t h0, blk2, blk3]
  · rw [mask_B m c t h0, kept_eq]; rfl

/-- Every point's block of raw weights. -/
theorem raw_eq (c : Dev nD) (t : Fin cfg0.N) : (outsAt0 m c t.val t.isLt).2.1
    = rawOf (iblk m c 0 t) (waOf (V m c main_arg2)) (iblk m c 1 t) (wtOf (V m c main_arg2)) (bbOf (V m c main_v1)) := by
  by_cases h0 : t.val % 8 = 0
  · rw [raw_A m c t h0, blk2, blk3]
  · rw [raw_B m c t h0, kept_eq]; rfl

/-- Every point's block of results. -/
theorem out_eq (c : Dev nD) (t : Fin cfg0.N) : (outsAt0 m c t.val t.isLt).1
    = outOf (iblk m c 0 t) (waOf (V m c main_arg2)) (iblk m c 1 t) (wtOf (V m c main_arg2)) (bbOf (V m c main_v1))
      (V m c main_v2) (V m c main_v3) (V m c main_v4) (V m c main_v5) (kept m c).1 (kept m c).2.1 := by
  by_cases h0 : t.val % 8 = 0
  · rw [out_A m c t h0, blk2, blk3, blk4, blk5, blk6, blk7, blk8, blk9, blk10, blk11, blk12, blk13]; rfl
  · rw [out_B m c t h0, kept_eq, blk4, blk5, blk6, blk7]; rfl

/-! ## The arrays after the run -/

/-- A point's block of results. -/
abbrev outBlock (c : Dev nD) (t : Fin cfg0.N) : Vec F S1024x2048 .f32 := (outsAt0 m c t.val t.isLt).1

/-- The array of results. -/
def outAll (c : Dev nD) : Buf (Elt F) ((c : Thread nD τ).loc main_v8_0) := fun i =>
  outBlock m c (point (i 0)) (ValueIdx.ix2 (inner (i 0)) (i 1))

/-- A point's block of raw weights. -/
abbrev rawBlock (c : Dev nD) (t : Fin cfg0.N) : Vec F S1024x4 .f32 := (outsAt0 m c t.val t.isLt).2.1

/-- The array of raw weights. -/
def rawAll (c : Dev nD) : Buf (Elt F) ((c : Thread nD τ).loc main_v8_1) := fun i =>
  rawBlock m c (point (i 0)) (ValueIdx.ix2 (inner (i 0)) (i 1))

/-- A point's block of selection words. -/
abbrev maskBlock (c : Dev nD) (t : Fin cfg0.N) : Vec F S1024x4 .i32 := (outsAt0 m c t.val t.isLt).2.2.1

/-- The array of selection words. -/
def maskAll (c : Dev nD) : Buf (Elt F) ((c : Thread nD τ).loc main_v8_2) := fun i =>
  maskBlock m c (point (i 0)) (ValueIdx.ix2 (inner (i 0)) (i 1))

/-- A number in a block belongs to its point, at its place. -/
theorem point_of {t : Fin cfg0.N} {i : Fin 8192} {j : Fin 1024} (h : i.val = t.val * 1024 + j.val) : point i = t ∧ inner i = j :=
  ⟨Fin.ext (by show i.val / 1024 = t.val; omega), Fin.ext (by show i.val % 1024 = j.val; omega)⟩

/-- The array of results at a row of point `t`. -/
theorem outAll_at (c : Dev nD) {t : Fin cfg0.N} {i : S8192x2048.Idx} {j : S1024x2048.Idx} (h0 : (i 0).val = t.val * 1024 + (j 0).val)
    (h1 : (i 1).val = (j 1).val) : outBlock m c t j = outAll m c i := by
  have hp := point_of (i := i 0) (j := j 0) h0
  have hq : i 1 = j 1 := Fin.ext h1
  unfold outAll
  rw [hp.1, hp.2, hq]
  congr 1
  exact ValueIdx.eq_ix2 j

/-- The array of raw weights at a row of point `t`. -/
theorem rawAll_at (c : Dev nD) {t : Fin cfg0.N} {i : S8192x4.Idx} {j : S1024x4.Idx} (h0 : (i 0).val = t.val * 1024 + (j 0).val)
    (h1 : (i 1).val = (j 1).val) : rawBlock m c t j = rawAll m c i := by
  have hp := point_of (i := i 0) (j := j 0) h0
  have hq : i 1 = j 1 := Fin.ext h1
  unfold rawAll
  rw [hp.1, hp.2, hq]
  congr 1
  exact ValueIdx.eq_ix2 j

/-- The array of selection words at a row of point `t`. -/
theorem maskAll_at (c : Dev nD) {t : Fin cfg0.N} {i : S8192x4.Idx} {j : S1024x4.Idx} (h0 : (i 0).val = t.val * 1024 + (j 0).val)
    (h1 : (i 1).val = (j 1).val) : maskBlock m c t j = maskAll m c i := by
  have hp := point_of (i := i 0) (j := j 0) h0
  have hq : i 1 = j 1 := Fin.ext h1
  unfold maskAll
  rw [hp.1, hp.2, hq]
  congr 1
  exact ValueIdx.eq_ix2 j

/-- The output 1 blocks sit one below the other. -/
theorem index14 (t : Fin cfg0.N) : win0_14.index t 0 = t.val ∧ win0_14.index t 1 = 0 := by
  rcases fin_N0 t with rfl | rfl | rfl | rfl | rfl | rfl | rfl | rfl <;> decide

/-- Each write-back of output 1 writes its rows. -/
theorem flushed14 (c : Dev nD) (t : Fin cfg0.N) :
    (dats m 0 c).flushed 14 t = ((cfg0.win 14).blk t).view.read (Elt F) (outAll m c) := by
  show (cfg0.win 14).cut (grid0.coords t) ((dats m 0 c).after 14 t) = _
  rw [after0_14]
  funext j
  rw [View.read_apply]
  exact outAll_at m c (by show win0_14.index t 0 * 1024 + 1 * (j 0).val = t.val * 1024 + (j 0).val; rw [(index14 t).1]; omega)
    (by show win0_14.index t 1 * 2048 + 1 * (j 1).val = (j 1).val; rw [(index14 t).2]; omega)

/-- Output 1 after the run. -/
theorem final14 (c : Dev nD) : (dats m 0 c).arrAt 14 cfg0.N = outAll m c :=
  (dats m 0 c).arrAt_eq_of_cover 14 (outAll m c) (fun t _ => flushed14 m c t) fun i =>
    ⟨point (i 0), flush0_14 _, by
      show i ∈ ((View.whole main_v8_0).slice (win0_14.rect (point (i 0)))).set
      rw [View.set_slice_whole, Rect.mem_set_unit]
      have h0 : (i 0 : Nat) < 8192 := (i 0).isLt
      have h1 : (i 1 : Nat) < 2048 := (i 1).isLt
      have hp : (point (i 0)).val = (i 0 : Nat) / 1024 := rfl
      refine Fin.forall_fin_two.mpr ⟨?_, ?_⟩
      · show win0_14.index (point (i 0)) 0 * 1024 ≤ (i 0 : Nat) ∧ (i 0 : Nat) < win0_14.index (point (i 0)) 0 * 1024 + 1024
        rw [(index14 _).1]; omega
      · show win0_14.index (point (i 0)) 1 * 2048 ≤ (i 1 : Nat) ∧ (i 1 : Nat) < win0_14.index (point (i 0)) 1 * 2048 + 2048
        rw [(index14 _).2]; omega⟩

/-- The output 2 blocks sit one below the other. -/
theorem index15 (t : Fin cfg0.N) : win0_15.index t 0 = t.val ∧ win0_15.index t 1 = 0 := by
  rcases fin_N0 t with rfl | rfl | rfl | rfl | rfl | rfl | rfl | rfl <;> decide

/-- Each write-back of output 2 writes its rows. -/
theorem flushed15 (c : Dev nD) (t : Fin cfg0.N) :
    (dats m 0 c).flushed 15 t = ((cfg0.win 15).blk t).view.read (Elt F) (rawAll m c) := by
  show (cfg0.win 15).cut (grid0.coords t) ((dats m 0 c).after 15 t) = _
  rw [after0_15]
  funext j
  rw [View.read_apply]
  exact rawAll_at m c (by show win0_15.index t 0 * 1024 + 1 * (j 0).val = t.val * 1024 + (j 0).val; rw [(index15 t).1]; omega)
    (by show win0_15.index t 1 * 4 + 1 * (j 1).val = (j 1).val; rw [(index15 t).2]; omega)

/-- Output 2 after the run. -/
theorem final15 (c : Dev nD) : (dats m 0 c).arrAt 15 cfg0.N = rawAll m c :=
  (dats m 0 c).arrAt_eq_of_cover 15 (rawAll m c) (fun t _ => flushed15 m c t) fun i =>
    ⟨point (i 0), flush0_15 _, by
      show i ∈ ((View.whole main_v8_1).slice (win0_15.rect (point (i 0)))).set
      rw [View.set_slice_whole, Rect.mem_set_unit]
      have h0 : (i 0 : Nat) < 8192 := (i 0).isLt
      have h1 : (i 1 : Nat) < 4 := (i 1).isLt
      have hp : (point (i 0)).val = (i 0 : Nat) / 1024 := rfl
      refine Fin.forall_fin_two.mpr ⟨?_, ?_⟩
      · show win0_15.index (point (i 0)) 0 * 1024 ≤ (i 0 : Nat) ∧ (i 0 : Nat) < win0_15.index (point (i 0)) 0 * 1024 + 1024
        rw [(index15 _).1]; omega
      · show win0_15.index (point (i 0)) 1 * 4 ≤ (i 1 : Nat) ∧ (i 1 : Nat) < win0_15.index (point (i 0)) 1 * 4 + 4
        rw [(index15 _).2]; omega⟩

/-- The output 3 blocks sit one below the other. -/
theorem index16 (t : Fin cfg0.N) : win0_16.index t 0 = t.val ∧ win0_16.index t 1 = 0 := by
  rcases fin_N0 t with rfl | rfl | rfl | rfl | rfl | rfl | rfl | rfl <;> decide

/-- Each write-back of output 3 writes its rows. -/
theorem flushed16 (c : Dev nD) (t : Fin cfg0.N) :
    (dats m 0 c).flushed 16 t = ((cfg0.win 16).blk t).view.read (Elt F) (maskAll m c) := by
  show (cfg0.win 16).cut (grid0.coords t) ((dats m 0 c).after 16 t) = _
  rw [after0_16]
  funext j
  rw [View.read_apply]
  exact maskAll_at m c (by show win0_16.index t 0 * 1024 + 1 * (j 0).val = t.val * 1024 + (j 0).val; rw [(index16 t).1]; omega)
    (by show win0_16.index t 1 * 4 + 1 * (j 1).val = (j 1).val; rw [(index16 t).2]; omega)

/-- Output 3 after the run. -/
theorem final16 (c : Dev nD) : (dats m 0 c).arrAt 16 cfg0.N = maskAll m c :=
  (dats m 0 c).arrAt_eq_of_cover 16 (maskAll m c) (fun t _ => flushed16 m c t) fun i =>
    ⟨point (i 0), flush0_16 _, by
      show i ∈ ((View.whole main_v8_2).slice (win0_16.rect (point (i 0)))).set
      rw [View.set_slice_whole, Rect.mem_set_unit]
      have h0 : (i 0 : Nat) < 8192 := (i 0).isLt
      have h1 : (i 1 : Nat) < 4 := (i 1).isLt
      have hp : (point (i 0)).val = (i 0 : Nat) / 1024 := rfl
      refine Fin.forall_fin_two.mpr ⟨?_, ?_⟩
      · show win0_16.index (point (i 0)) 0 * 1024 ≤ (i 0 : Nat) ∧ (i 0 : Nat) < win0_16.index (point (i 0)) 0 * 1024 + 1024
        rw [(index16 _).1]; omega
      · show win0_16.index (point (i 0)) 1 * 4 ≤ (i 1 : Nat) ∧ (i 1 : Nat) < win0_16.index (point (i 0)) 1 * 4 + 4
        rw [(index16 _).2]; omega⟩

/-- The host's comparison after the region: whether each selection word is nonzero. -/
def chosen (c : Dev nD) : Buf (Elt F) ((c : Thread nD τ).loc main_v11) := fun i => Scalar.cmpi .ne (maskAll m c i) 0#32

/-- The host's operations after the region, read. -/
theorem tail (c : Dev nD) : Pipeline.afterTail₀ cfgs (dats m) 0 (V0 m) [hostOps1] c main_v11 = chosen m c := by
  unfold Pipeline.afterTail₀
  show StableHlo.after hostOps1 _ (Proc.devRef .tc main_v11) = _
  after_results
  have h : Pipeline.withArrays spec0 c (V0 m c) (fun w => (dats m 0 c).arrAt w cfg0.N) (Proc.devRef .tc main_v8_2) = maskAll m c :=
    (Pipeline.withArrays_arr spec0 (by decide) c (V0 m c) _ 16).trans (final16 m c)
  funext i
  show Scalar.cmpi .ne (Pipeline.withArrays spec0 c (V0 m c) (fun w => (dats m 0 c).arrAt w cfg0.N) (Proc.devRef .tc main_v8_2) i) 0#32 = _
  rw [h]
  rfl

/-- The run, read: the three results and the arguments. -/
theorem run : θ_run defs (onTc (τ := τ) (main (F := F))) ⟨m, fun _ => 0, ρ⟩ fun r => ∀ c : Dev nD,
      r.2.mem ((c : Thread nD τ).loc main_v8_0) = outAll m c
      ∧ r.2.mem ((c : Thread nD τ).loc main_v8_1) = rawAll m c
      ∧ r.2.mem ((c : Thread nD τ).loc main_v11) = chosen m c :=
  (θ_run defs _ _).mono (fun _ h c => ⟨((h c).1 14).trans (final14 m c), ((h c).1 15).trans (final15 m c),
      ((h c).2 main_v11 (Pipeline.mem_restRefs_of main_v11 (by decide) (by decide))).trans (tail m c)⟩)
    (run_main m ρ)

end Cert.Proof.Block

end
-- ==== Proof.Consts.lean ====
module

public import proofs.«01_k».proof.KernelIdeal
public import Idealize.ShloMosaic.Lib.Pointwise
public import Idealize.ShloMosaic.Lib.WordCmp
public import Mathlib.Tactic.NormNum
public import Mathlib.Tactic.Ring

/-! The values of the literals the two programs name, and of the one-bit words they turn into numbers. -/

@[expose] public section

noncomputable section

namespace Cert.Proof

open Idealize.ShloMosaic
open scoped BigOperators

/-- The literal minus one. -/
theorem lit_neg_one : Ideal.ofBits .f32 0xBF800000#32 = ((-1 : ℝ) : EReal) := by
  simp [Ideal.ofBits, Ideal.ieee, -EReal.coe_mul, -EReal.coe_neg]
  norm_num

/-- The literal one. -/
theorem lit_one : Ideal.ofBits .f32 0x3F800000#32 = ((1 : ℝ) : EReal) := by
  simp [Ideal.ofBits, Ideal.ieee, -EReal.coe_mul, -EReal.coe_neg]
  try norm_num

/-- The literal zero. -/
theorem lit_zero : Ideal.ofBits .f32 0x00000000#32 = ((0 : ℝ) : EReal) := by
  simp [Ideal.ofBits, Ideal.ieee, -EReal.coe_mul, -EReal.coe_neg]
  try norm_num

/-- A decided one-bit word as a number. -/
theorem sitofp_bit (p : Prop) [Decidable p] :
    (FloatOps.sitofp .f32 (BitVec.setWidth 32 (BitVec.ofBool (decide p))) : Ideal .f32) = if p then ((1 : ℝ) : EReal) else ((0 : ℝ) : EReal) := by
  show (((BitVec.setWidth 32 (BitVec.ofBool (decide p))).toInt : ℝ) : EReal) = _
  by_cases h : p
  · rw [decide_eq_true h, if_pos h]
    exact congrArg Real.toEReal (by rw [show (BitVec.setWidth 32 (BitVec.ofBool true)).toInt = 1 from rfl]; norm_num)
  · rw [decide_eq_false h, if_neg h]
    exact congrArg Real.toEReal (by rw [show (BitVec.setWidth 32 (BitVec.ofBool false)).toInt = 0 from rfl]; norm_num)

/-- The identity matrix's entry. -/
theorem sitofp_eye {n : ℕ} (i j : Fin n) (hn : n ≤ 2 ^ 32) :
    (FloatOps.sitofp .f32 (BitVec.setWidth 32 (IntOp.cmpi .eq (BitVec.ofNat 32 i.val) (BitVec.ofNat 32 j.val))) : Ideal .f32)
      = if i = j then ((1 : ℝ) : EReal) else ((0 : ℝ) : EReal) := by
  have h : IntOp.cmpi .eq (BitVec.ofNat 32 i.val) (BitVec.ofNat 32 j.val) = BitVec.ofBool (decide (i = j)) := by
    rw [WordCmp.cmpi_eq_ofNat (by omega) (by omega)]
    exact congrArg _ (decide_eq_decide.mpr Fin.ext_iff.symm)
  rw [h, sitofp_bit]

/-- The identity matrix's entry, the column given by its number. -/
theorem sitofp_eye_nat (a b : ℕ) (ha : a < 2 ^ 32) (hb : b < 2 ^ 32) :
    (FloatOps.sitofp .f32 (BitVec.setWidth 32 (IntOp.cmpi .eq (BitVec.ofNat 32 a) (BitVec.ofNat 32 b))) : Ideal .f32)
      = if a = b then ((1 : ℝ) : EReal) else ((0 : ℝ) : EReal) := by
  rw [WordCmp.cmpi_eq_ofNat ha hb, sitofp_bit]

/-- A row times a column of the identity matrix, at the column's number. -/
theorem sum_mul_pick {n : ℕ} (f : Fin n → EReal) (e : ℕ) (he : e < n) :
    ∑ i : Fin n, f i * (if i.val = e then ((1 : ℝ) : EReal) else ((0 : ℝ) : EReal)) = f ⟨e, he⟩ := by
  rw [Finset.sum_eq_single ⟨e, he⟩]
  · simp
  · intro b _ h
    have : ¬ b.val = e := fun h' => h (Fin.ext h')
    simp [this]
  · simp

/-- A row times the identity matrix, at an entry. -/
theorem sum_mul_eye {n : ℕ} (f : Fin n → EReal) (j : Fin n) :
    ∑ i, f i * (if i = j then ((1 : ℝ) : EReal) else ((0 : ℝ) : EReal)) = f j := by
  rw [Finset.sum_eq_single j]
  · simp
  · intro b _ h; simp [h]
  · simp

/-- The identity matrix times a column, at an entry. -/
theorem sum_eye_mul {n : ℕ} (f : Fin n → EReal) (j : Fin n) :
    ∑ i, (if j = i then ((1 : ℝ) : EReal) else ((0 : ℝ) : EReal)) * f i = f j := by
  rw [Finset.sum_eq_single j]
  · simp
  · intro b _ h; simp [h.symm]
  · simp

end Cert.Proof

end
-- ==== Proof.Router.lean ====
module

public import Idealize.ShloMosaic.Lib.SortPrefix
public import Mathlib.Analysis.SpecialFunctions.Exp
public import Mathlib.Algebra.BigOperators.Fin
public import Mathlib.Tactic.FinCases
public import Mathlib.Tactic.Linarith
public import Mathlib.Tactic.NormNum

/-! The routing of one token over four experts: softmax, the two greatest and their weights. -/

@[expose] public section

noncomputable section

namespace Cert.Proof

open Idealize.ShloMosaic

/-- The greatest of four, taken pairwise. -/
def top (r : Fin 4 → ℝ) : ℝ := max (max (r 0) (r 1)) (max (r 2) (r 3))

/-- Softmax of four logits, the greatest taken off before the exponential. -/
def soft (l : Fin 4 → ℝ) (e : Fin 4) : ℝ :=
  Real.exp (l e - top l)
    / (Real.exp (l 0 - top l) + Real.exp (l 1 - top l) + Real.exp (l 2 - top l) + Real.exp (l 3 - top l))

/-- The lowest position holding the greatest. -/
def first (r : Fin 4 → ℝ) : Fin 4 :=
  if r 0 = top r then 0 else if r 1 = top r then 1 else if r 2 = top r then 2 else 3

/-- The row with its first greatest entry put at minus one. -/
def rest (r : Fin 4 → ℝ) (e : Fin 4) : ℝ := if first r = e then -1 else r e

/-- The lowest position holding the greatest of what is left. -/
def second (r : Fin 4 → ℝ) : Fin 4 := first (rest r)

/-- The exponential of the second greatest less the greatest. -/
def gap (r : Fin 4 → ℝ) : ℝ := Real.exp (top (rest r) - top r)

/-- The weight of each expert: of the first and of the second, zero elsewhere. -/
def weight (r : Fin 4 → ℝ) (e : Fin 4) : ℝ :=
  if first r = e then 1 / (1 + gap r) else if second r = e then gap r / (1 + gap r) else 0

/-- Every entry is at most the greatest. -/
theorem le_top (r : Fin 4 → ℝ) (e : Fin 4) : r e ≤ top r := by
  unfold top; fin_cases e <;> simp

/-- The first position holds the greatest. -/
theorem first_eq (r : Fin 4 → ℝ) : r (first r) = top r := by
  unfold first
  split_ifs with h0 h1 h2
  · exact h0
  · exact h1
  · exact h2
  · have h : top r = r 0 ∨ top r = r 1 ∨ top r = r 2 ∨ top r = r 3 := by
      unfold top
      rcases max_choice (max (r 0) (r 1)) (max (r 2) (r 3)) with h | h <;> rw [h]
      · rcases max_choice (r 0) (r 1) with h' | h' <;> rw [h'] <;> simp
      · rcases max_choice (r 2) (r 3) with h' | h' <;> rw [h'] <;> simp
    rcases h with h | h | h | h
    · exact absurd h.symm h0
    · exact absurd h.symm h1
    · exact absurd h.symm h2
    · exact h.symm

/-- No position before the first holds the greatest. -/
theorem first_lt (r : Fin 4 → ℝ) (e : Fin 4) (h : e < first r) : r e ≠ top r := by
  unfold first at h
  split_ifs at h with h0 h1 h2
  · exact absurd h (by simp)
  · fin_cases e <;> simp at h ⊢; exact h0
  · fin_cases e <;> simp at h ⊢ <;> assumption
  · fin_cases e <;> simp at h ⊢ <;> assumption

/-- The four weights of a softmax are positive. -/
theorem soft_pos (l : Fin 4 → ℝ) (e : Fin 4) : 0 < soft l e := by
  unfold soft
  have := fun x => Real.exp_pos x
  exact div_pos (this _) (add_pos (add_pos (add_pos (this _) (this _)) (this _)) (this _))

/-- The two positions differ when every entry exceeds minus one. -/
theorem second_ne (r : Fin 4 → ℝ) (hr : ∀ e, -1 < r e) : second r ≠ first r := by
  intro h
  obtain ⟨e, he⟩ : ∃ e, e ≠ first r := ⟨first r + 1, by simp⟩
  have h1 : rest r e ≤ rest r (second r) := by
    have := first_eq (rest r)
    exact (le_top _ _).trans this.ge
  rw [h] at h1
  unfold rest at h1
  rw [if_neg (Ne.symm he), if_pos rfl] at h1
  exact absurd (hr e) (not_lt.2 h1)

/-- The second greatest is the entry at the second position. -/
theorem top_rest (r : Fin 4 → ℝ) (hr : ∀ e, -1 < r e) : top (rest r) = r (second r) := by
  rw [← first_eq (rest r)]
  show rest r (second r) = _
  unfold rest
  rw [if_neg (second_ne r hr).symm]

/-- One position comes before another: its entry is greater, or the two are equal and it is lower. -/
def before (r : Fin 4 → ℝ) (k k' : Fin 4) : Bool :=
  decide (r k' < r k) || (decide (r k = r k') && decide (k < k'))

/-- That order is strict and total. -/
theorem before_total (r : Fin 4 → ℝ) : StrictTotalBefore (before r) where
  irrefl k := by simp [before]
  trans a b c hab hbc := by
    simp only [before, Bool.or_eq_true, Bool.and_eq_true, decide_eq_true_eq] at hab hbc ⊢
    rcases hab with h | ⟨h, h'⟩ <;> rcases hbc with g | ⟨g, g'⟩
    · exact Or.inl (g.trans h)
    · exact Or.inl (g ▸ h)
    · exact Or.inl (h ▸ g)
    · exact Or.inr ⟨h.trans g, h'.trans g'⟩
  total a b hab := by
    simp only [before, Bool.or_eq_true, Bool.and_eq_true, decide_eq_true_eq]
    rcases lt_trichotomy (r a) (r b) with h | h | h
    · exact Or.inr (Or.inl h)
    · rcases lt_or_gt_of_ne hab with g | g
      · exact Or.inl (Or.inr ⟨h, g⟩)
      · exact Or.inr (Or.inr ⟨h.symm, g⟩)
    · exact Or.inl (Or.inl h)

/-- Nothing comes before the first position. -/
theorem not_before_first (r : Fin 4 → ℝ) (p : Fin 4) : before r p (first r) = false := by
  have hle := le_top r p
  rw [← first_eq r] at hle
  simp only [before, Bool.or_eq_false_iff, Bool.and_eq_false_iff, decide_eq_false_iff_not]
  refine ⟨not_lt.2 hle, ?_⟩
  by_cases h : r p = r (first r)
  · exact Or.inr fun hlt => first_lt r p hlt (h.trans (first_eq r))
  · exact Or.inl h

/-- Of the other positions none comes before the second. -/
theorem not_before_second (r : Fin 4 → ℝ) (hr : ∀ e, -1 < r e) (p : Fin 4) (hp : p ≠ first r) :
    before r p (second r) = false := by
  have h := not_before_first (rest r) p
  have e1 : rest r p = r p := if_neg (Ne.symm hp)
  have e2 : rest r (second r) = r (second r) := if_neg (second_ne r hr).symm
  unfold before at h ⊢
  rw [e1] at h
  change (decide (rest r (second r) < r p) || (decide (r p = rest r (second r)) && decide (p < second r))) = false at h
  rw [e2] at h
  exact h

/-- The two selected positions, in order. -/
def picks (r : Fin 4 → ℝ) : Fin 2 → Fin 4 := ![first r, second r]

/-- The stable sort by "before" starts with the two selected positions. -/
theorem sorted_picks (r : Fin 4 → ℝ) (hr : ∀ e, -1 < r e) (i : Fin 2) :
    sortedFrom (before r) (i.castLE (by omega)) = picks r i := by
  refine (before_total r).sortedFrom_eq_of_prefix (by omega) (picks r) ?_ ?_ ?_ i
  · intro a b h
    have hne := second_ne r hr
    fin_cases a <;> fin_cases b <;> simp [picks] at h ⊢ <;> [exact hne h.symm; exact hne h]
  · intro a b hab
    have hb : picks r b = second r := by fin_cases a <;> fin_cases b <;> simp at hab ⊢ <;> rfl
    have ha : picks r a = first r := by fin_cases a <;> fin_cases b <;> simp at hab ⊢ <;> rfl
    rw [ha, hb]
    exact not_before_first r _
  · intro a p hp
    have h0 : first r ≠ p := hp 0
    fin_cases a
    · exact not_before_first r p
    · exact not_before_second r hr p h0.symm

end Cert.Proof

end
-- ==== Proof.KernelRoute.lean ====
module

public import proofs.«01_k».proof.Proof.KernelRun
public import proofs.«01_k».proof.Proof.Consts
public import proofs.«01_k».proof.Proof.Router
public import Mathlib.Tactic.Positivity

/-! The kernel's routing of one token of a block, over the reals. -/

@[expose] public section

noncomputable section

namespace Cert.Proof.Block

open Idealize.ShloMosaic Idealize.ShloMosaic.TcCoe
open Cert.KernelIdeal Cert.KernelIdeal.Gen
open scoped BigOperators

/-! ## The router's scratch arrays -/

/-- The scratch rows hold the transposed weights of the auxiliary columns. -/
theorem waOf_apply (w : Vec Ideal S65x4 .f32) (e : Fin 4) (k : Fin 64) :
    waOf w (ix2 ⟨e.val, by omega⟩ k) = w (ix2 ⟨1 + k.val, by omega⟩ e) := by
  pointwise [waOf, k0_pay10]
  simp only [sitofp_eye _ _ (by norm_num : 64 ≤ 2 ^ 32)]
  exact sum_mul_eye (fun x : Fin 64 => w (ix2 ⟨1 + x.val, by omega⟩ e)) k

/-- The scratch column holds the transposed weights of the time column. -/
theorem wtOf_apply (w : Vec Ideal S65x4 .f32) (e : Fin 4) : wtOf w (ix2 ⟨e.val, by omega⟩ 0) = w (ix2 0 e) := by
  pointwise [wtOf, k0_pay12, k0_pay9]
  simp only [sitofp_eye _ _ (by norm_num : 4 ≤ 2 ^ 32)]
  exact sum_eye_mul (fun x : Fin 4 => w (ix2 0 x)) e

/-- The scratch column holds the biases. -/
theorem bbOf_apply (b : Vec Ideal S1x4 .f32) (e : Fin 4) : bbOf b (ix2 ⟨e.val, by omega⟩ 0) = b (ix2 0 e) := by
  pointwise [bbOf, k0_pay14, k0_pay9, k0_pay11, k0_pay13]
  simp only [sitofp_eye _ _ (by norm_num : 4 ≤ 2 ^ 32)]
  exact sum_eye_mul (fun x : Fin 4 => b (ix2 0 x)) e

/-! ## The selections as decisions -/

/-- Whether expert `e` is the first of a row, as a one-bit word. -/
abbrev isFirst (r : Fin 4 → ℝ) (e : Fin 4) : BitVec 1 := BitVec.ofBool (decide (first r = e))

/-- An equality of reals, as the extended reals decide it. -/
theorem cmp_coe (x y : ℝ) [Decidable ((x : EReal) = (y : EReal))] :
    BitVec.ofBool (decide ((x : EReal) = (y : EReal))) = BitVec.ofBool (decide (x = y)) :=
  congrArg _ (decide_eq_decide.mpr EReal.coe_eq_coe_iff)

/-- Expert 0 is the first where its entry is the greatest. -/
theorem first0 (r : Fin 4 → ℝ) : BitVec.ofBool (decide (r 0 = top r)) = isFirst r 0 := by
  unfold isFirst first
  by_cases h0 : r 0 = top r <;> by_cases h1 : r 1 = top r <;> by_cases h2 : r 2 = top r <;> simp [h0, h1, h2]

/-- Expert 1 is the first where its entry is the greatest and expert 0 is not the first. -/
theorem first1 (r : Fin 4 → ℝ) :
    IntOp.andi (BitVec.ofBool (decide (r 1 = top r))) (IntOp.xori (isFirst r 0) 1#1) = isFirst r 1 := by
  unfold isFirst first
  by_cases h0 : r 0 = top r <;> by_cases h1 : r 1 = top r <;> by_cases h2 : r 2 = top r <;> simp [h0, h1, h2, IntOp.andi, IntOp.xori]

/-- Expert 2 is the first where its entry is the greatest and neither expert 0 nor 1 is the first. -/
theorem first2 (r : Fin 4 → ℝ) :
    IntOp.andi (IntOp.andi (BitVec.ofBool (decide (r 2 = top r))) (IntOp.xori (isFirst r 0) 1#1)) (IntOp.xori (isFirst r 1) 1#1)
      = isFirst r 2 := by
  unfold isFirst first
  by_cases h0 : r 0 = top r <;> by_cases h1 : r 1 = top r <;> by_cases h2 : r 2 = top r <;> simp [h0, h1, h2, IntOp.andi, IntOp.xori]

/-- Expert 3 is the first where its entry is the greatest and no other expert is the first. -/
theorem first3 (r : Fin 4 → ℝ) :
    IntOp.andi (IntOp.andi (IntOp.andi (BitVec.ofBool (decide (r 3 = top r))) (IntOp.xori (isFirst r 0) 1#1))
      (IntOp.xori (isFirst r 1) 1#1)) (IntOp.xori (isFirst r 2) 1#1) = isFirst r 3 := by
  have h3 := first_eq r
  unfold isFirst
  unfold first at h3 ⊢
  by_cases h0 : r 0 = top r <;> by_cases h1 : r 1 = top r <;> by_cases h2 : r 2 = top r <;>
    simp [h0, h1, h2, IntOp.andi, IntOp.xori] at h3 ⊢
  simp [h3]

/-- The greatest of four reals, as the extended reals take it. -/
theorem top_coe (r : Fin 4 → ℝ) :
    max (max ((r 0 : ℝ) : EReal) ((r 1 : ℝ) : EReal)) (max ((r 2 : ℝ) : EReal) ((r 3 : ℝ) : EReal)) = ((top r : ℝ) : EReal) := by
  have h : ∀ x y : ℝ, max (x : EReal) (y : EReal) = ((max x y : ℝ) : EReal) := fun x y =>
    (EReal.coe_strictMono.monotone.map_max).symm
  rw [h, h, h]
  rfl

/-- A row's entry with the first greatest put at minus one, as the kernel selects it. -/
theorem rest_at (r : Fin 4 → ℝ) (e : Fin 4) :
    Scalar.select (isFirst r e) (Ideal.ofBits .f32 0xBF800000#32) ((r e : ℝ) : EReal) = ((rest r e : ℝ) : EReal) := by
  unfold isFirst rest
  rw [lit_neg_one]
  by_cases h : first r = e <;> simp [h, Scalar.select]

/-- An expert's weight, as the kernel sums it from the two selections. -/
theorem weight_at (r : Fin 4 → ℝ) (hr : ∀ e, -1 < r e) (e : Fin 4) :
    Ideal.div ((1 : ℝ) : EReal) (((1 : ℝ) : EReal) + ((gap r : ℝ) : EReal)) * (if first r = e then ((1 : ℝ) : EReal) else ((0 : ℝ) : EReal))
      + Ideal.div ((gap r : ℝ) : EReal) (((1 : ℝ) : EReal) + ((gap r : ℝ) : EReal))
        * (if second r = e then ((1 : ℝ) : EReal) else ((0 : ℝ) : EReal)) = ((weight r e : ℝ) : EReal) := by
  have hg : (0 : ℝ) < 1 + gap r := by have : 0 < gap r := Real.exp_pos _; linarith
  have hne := second_ne r hr
  rw [← EReal.coe_add, Ideal.div_coe hg.ne', Ideal.div_coe hg.ne', ← EReal.coe_mul, ← EReal.coe_mul]
  unfold weight
  by_cases h1 : first r = e
  · have h2 : second r ≠ e := fun h => hne (h.trans h1.symm)
    rw [if_pos h1, if_neg h2, if_pos h1, ← EReal.coe_mul, ← EReal.coe_mul, ← EReal.coe_add]
    congr 1; ring
  · rw [if_neg h1, if_neg h1]
    by_cases h2 : second r = e
    · rw [if_pos h2, if_pos h2, ← EReal.coe_mul, ← EReal.coe_mul, ← EReal.coe_add]
      congr 1; ring
    · rw [if_neg h2, if_neg h2, ← EReal.coe_mul, ← EReal.coe_mul, ← EReal.coe_add]
      congr 1; ring

section Token

variable (t : Vec Ideal S1x1024 .f32) (wa : Vec Ideal S8x64 .f32) (aux : Vec Ideal S1024x64 .f32) (wt bb : Vec Ideal S8x1 .f32)

/-- The logits of the token at a place of the block are these reals. -/
structure Logits (j : Fin 1024) (l : Fin 4 → ℝ) : Prop where
  at0 : k0_pay16 t wa aux wt bb (ix2 0 j) = ((l 0 : ℝ) : EReal)
  at1 : k0_pay16 t wa aux wt bb (ix2 1 j) = ((l 1 : ℝ) : EReal)
  at2 : k0_pay16 t wa aux wt bb (ix2 2 j) = ((l 2 : ℝ) : EReal)
  at3 : k0_pay16 t wa aux wt bb (ix2 3 j) = ((l 3 : ℝ) : EReal)

variable {t wa aux wt bb} {j : Fin 1024} {l : Fin 4 → ℝ}

/-- The greatest logit. -/
theorem pay21_at (h : Logits t wa aux wt bb j l) : k0_pay21 t wa aux wt bb (ix2 0 j) = ((top l : ℝ) : EReal) := by
  pointwise [k0_pay21, k0_pay17, k0_pay18, k0_pay19, k0_pay20]
  rw [h.at0, h.at1, h.at2, h.at3, top_coe]

/-- The exponential of logit 0 less the greatest. -/
theorem pay22_at (h : Logits t wa aux wt bb j l) : k0_pay22 t wa aux wt bb (ix2 0 j) = ((Real.exp (l 0 - top l) : ℝ) : EReal) := by
  have ht := pay21_at h
  pointwise [k0_pay22, k0_pay17]
  rw [ht, h.at0, ← EReal.coe_sub, Ideal.exp_coe]

/-- The exponential of logit 1 less the greatest. -/
theorem pay23_at (h : Logits t wa aux wt bb j l) : k0_pay23 t wa aux wt bb (ix2 0 j) = ((Real.exp (l 1 - top l) : ℝ) : EReal) := by
  have ht := pay21_at h
  pointwise [k0_pay23, k0_pay18]
  rw [ht, h.at1, ← EReal.coe_sub, Ideal.exp_coe]

/-- The exponential of logit 2 less the greatest. -/
theorem pay24_at (h : Logits t wa aux wt bb j l) : k0_pay24 t wa aux wt bb (ix2 0 j) = ((Real.exp (l 2 - top l) : ℝ) : EReal) := by
  have ht := pay21_at h
  pointwise [k0_pay24, k0_pay19]
  rw [ht, h.at2, ← EReal.coe_sub, Ideal.exp_coe]

/-- The exponential of logit 3 less the greatest. -/
theorem pay25_at (h : Logits t wa aux wt bb j l) : k0_pay25 t wa aux wt bb (ix2 0 j) = ((Real.exp (l 3 - top l) : ℝ) : EReal) := by
  have ht := pay21_at h
  pointwise [k0_pay25, k0_pay20]
  rw [ht, h.at3, ← EReal.coe_sub, Ideal.exp_coe]

/-- A quotient by a sum of four exponentials is real. -/
theorem soft_at (l : Fin 4 → ℝ) (e : Fin 4) :
    Ideal.div ((Real.exp (l e - top l) : ℝ) : EReal) (((Real.exp (l 0 - top l) : ℝ) : EReal) + ((Real.exp (l 1 - top l) : ℝ) : EReal)
      + ((Real.exp (l 2 - top l) : ℝ) : EReal) + ((Real.exp (l 3 - top l) : ℝ) : EReal)) = ((soft l e : ℝ) : EReal) := by
  have hp : (0 : ℝ) < Real.exp (l 0 - top l) + Real.exp (l 1 - top l) + Real.exp (l 2 - top l) + Real.exp (l 3 - top l) := by positivity
  rw [← EReal.coe_add, ← EReal.coe_add, ← EReal.coe_add, Ideal.div_coe hp.ne', ← EReal.coe_mul]
  unfold soft
  congr 1; ring

/-- The softmax weight of expert 0. -/
theorem pay27_at (h : Logits t wa aux wt bb j l) : k0_pay27 t wa aux wt bb (ix2 0 j) = ((soft l 0 : ℝ) : EReal) := by
  have h0 := pay22_at h
  have h1 := pay23_at h
  have h2 := pay24_at h
  have h3 := pay25_at h
  pointwise [k0_pay27, k0_pay26]
  rw [h0, h1, h2, h3, soft_at]

/-- The softmax weight of expert 1. -/
theorem pay28_at (h : Logits t wa aux wt bb j l) : k0_pay28 t wa aux wt bb (ix2 0 j) = ((soft l 1 : ℝ) : EReal) := by
  have h0 := pay22_at h
  have h1 := pay23_at h
  have h2 := pay24_at h
  have h3 := pay25_at h
  pointwise [k0_pay28, k0_pay26]
  rw [h0, h1, h2, h3, soft_at]

/-- The softmax weight of expert 2. -/
theorem pay29_at (h : Logits t wa aux wt bb j l) : k0_pay29 t wa aux wt bb (ix2 0 j) = ((soft l 2 : ℝ) : EReal) := by
  have h0 := pay22_at h
  have h1 := pay23_at h
  have h2 := pay24_at h
  have h3 := pay25_at h
  pointwise [k0_pay29, k0_pay26]
  rw [h0, h1, h2, h3, soft_at]

/-- The softmax weight of expert 3. -/
theorem pay30_at (h : Logits t wa aux wt bb j l) : k0_pay30 t wa aux wt bb (ix2 0 j) = ((soft l 3 : ℝ) : EReal) := by
  have h0 := pay22_at h
  have h1 := pay23_at h
  have h2 := pay24_at h
  have h3 := pay25_at h
  pointwise [k0_pay30, k0_pay26]
  rw [h0, h1, h2, h3, soft_at]

/-- The greatest softmax weight. -/
theorem pay31_at (h : Logits t wa aux wt bb j l) : k0_pay31 t wa aux wt bb (ix2 0 j) = ((top (soft l) : ℝ) : EReal) := by
  pointwise [k0_pay31]
  rw [pay27_at h, pay28_at h, pay29_at h, pay30_at h, top_coe]

/-! ### The first selection -/

/-- Whether expert 0 is the first. -/
theorem pay32_at (h : Logits t wa aux wt bb j l) : k0_pay32 t wa aux wt bb (ix2 0 j) = isFirst (soft l) 0 := by
  pointwise [k0_pay32]
  rw [pay27_at h, pay31_at h, cmp_coe, first0]

/-- Whether the weight of expert 1 is the greatest. -/
theorem pay33_at (h : Logits t wa aux wt bb j l) :
    k0_pay33 t wa aux wt bb (ix2 0 j) = BitVec.ofBool (decide (soft l 1 = top (soft l))) := by
  pointwise [k0_pay33]
  rw [pay28_at h, pay31_at h, cmp_coe]

/-- Whether expert 1 is the first. -/
theorem pickA1_at (h : Logits t wa aux wt bb j l) : pickA1 t wa aux wt bb (ix2 0 j) = isFirst (soft l) 1 := by
  pointwise [pickA1, k0_pay34]
  rw [pay32_at h, pay33_at h, first1]

/-- Whether expert 2 is the first. -/
theorem pickA2_at (h : Logits t wa aux wt bb j l) : pickA2 t wa aux wt bb (ix2 0 j) = isFirst (soft l) 2 := by
  pointwise [pickA2, k0_pay35, k0_pay34]
  rw [pay32_at h, pay33_at h, first1, pay29_at h, pay31_at h, cmp_coe, first2]

/-- Whether expert 3 is the first. -/
theorem pickA3_at (h : Logits t wa aux wt bb j l) : pickA3 t wa aux wt bb (ix2 0 j) = isFirst (soft l) 3 := by
  pointwise [pickA3, k0_pay36, k0_pay35, k0_pay34]
  rw [pay32_at h, pay33_at h, first1, pay29_at h, pay30_at h, pay31_at h, cmp_coe, cmp_coe, first2, first3]

/-! ### What the first selection leaves -/

/-- The four rows with the first selection put at minus one, and their greatest, at a token. -/
theorem rest_rows (h : Logits t wa aux wt bb j l) :
    k0_pay37 (k0_pay27 t wa aux wt bb) (k0_pay32 t wa aux wt bb) (ix2 0 j) = ((rest (soft l) 0 : ℝ) : EReal)
    ∧ k0_pay38 (k0_pay28 t wa aux wt bb) (k0_pay32 t wa aux wt bb) (k0_pay33 t wa aux wt bb) (ix2 0 j) = ((rest (soft l) 1 : ℝ) : EReal)
    ∧ k0_pay39 (k0_pay29 t wa aux wt bb) (k0_pay31 t wa aux wt bb) (k0_pay32 t wa aux wt bb) (k0_pay33 t wa aux wt bb) (ix2 0 j)
      = ((rest (soft l) 2 : ℝ) : EReal)
    ∧ k0_pay40 (k0_pay29 t wa aux wt bb) (k0_pay30 t wa aux wt bb) (k0_pay31 t wa aux wt bb) (k0_pay32 t wa aux wt bb)
      (k0_pay33 t wa aux wt bb) (ix2 0 j) = ((rest (soft l) 3 : ℝ) : EReal) := by
  have h1 := pickA1_at h
  have h2 := pickA2_at h
  have h3 := pickA3_at h
  unfold pickA1 at h1
  unfold pickA2 at h2
  unfold pickA3 at h3
  refine ⟨?_, ?_, ?_, ?_⟩
  · pointwise [k0_pay37]
    rw [pay32_at h, pay27_at h, rest_at]
  · pointwise [k0_pay38]
    rw [h1, pay28_at h, rest_at]
  · pointwise [k0_pay39]
    rw [h2, pay29_at h, rest_at]
  · pointwise [k0_pay40]
    rw [h3, pay30_at h, rest_at]

/-- The greatest weight once the first is set aside. -/
theorem pay41_at (h : Logits t wa aux wt bb j l) : onRows t wa aux wt bb k0_pay41 (ix2 0 j) = ((top (rest (soft l)) : ℝ) : EReal) := by
  obtain ⟨h0, h1, h2, h3⟩ := rest_rows h
  pointwise [onRows, k0_pay41]
  rw [h0, h1, h2, h3, top_coe]

/-! ### The second selection -/

/-- Whether expert 0 is the second. -/
theorem pay42_at (h : Logits t wa aux wt bb j l) : onRows t wa aux wt bb k0_pay42 (ix2 0 j) = isFirst (rest (soft l)) 0 := by
  have ht := pay41_at h
  pointwise [onRows, k0_pay42] at *
  rw [(rest_rows h).1, ht, cmp_coe, first0]

/-- Whether expert 1 is the second. -/
theorem pay43_at (h : Logits t wa aux wt bb j l) : onRows t wa aux wt bb k0_pay43 (ix2 0 j) = isFirst (rest (soft l)) 1 := by
  have ht := pay41_at h
  have h0 := pay42_at h
  pointwise [onRows, k0_pay43] at *
  rw [(rest_rows h).2.1, ht, h0, cmp_coe, first1]

/-- Whether expert 2 is the second. -/
theorem pay44_at (h : Logits t wa aux wt bb j l) : onRows t wa aux wt bb k0_pay44 (ix2 0 j) = isFirst (rest (soft l)) 2 := by
  have ht := pay41_at h
  have h0 := pay42_at h
  have h1 := pay43_at h
  pointwise [onRows, k0_pay44] at *
  rw [(rest_rows h).2.2.1, ht, h0, h1, cmp_coe, first2]

/-- Whether expert 3 is the second. -/
theorem pay45_at (h : Logits t wa aux wt bb j l) : onRows t wa aux wt bb k0_pay45 (ix2 0 j) = isFirst (rest (soft l)) 3 := by
  have ht := pay41_at h
  have h0 := pay42_at h
  have h1 := pay43_at h
  have h2 := pay44_at h
  pointwise [onRows, k0_pay45] at *
  rw [(rest_rows h).2.2.2, ht, h0, h1, h2, cmp_coe, first3]

/-- The exponential of the gap between the two greatest weights. -/
theorem pay46_at (h : Logits t wa aux wt bb j l) : onRows t wa aux wt bb k0_pay46 (ix2 0 j) = ((gap (soft l) : ℝ) : EReal) := by
  have ht := pay41_at h
  pointwise [onRows, k0_pay46] at *
  rw [ht, pay31_at h, ← EReal.coe_sub, Ideal.exp_coe]
  rfl

/-! ### The weights and the two routing results -/

/-- The softmax of logits exceeds minus one. -/
theorem soft_gt (l : Fin 4 → ℝ) (e : Fin 4) : -1 < soft l e := by linarith [soft_pos l e]

/-- The dispatch weight of expert 0. -/
theorem disp0_at (h : Logits t wa aux wt bb j l) : disp0 t wa aux wt bb (ix2 0 j) = ((weight (soft l) 0 : ℝ) : EReal) := by
  pointwise [disp0, k0_pay49, k0_pay47, k0_pay48]
  rw [pay46_at h, pay32_at h, pay42_at h, sitofp_bit, sitofp_bit, ← EReal.coe_one]
  exact weight_at _ (soft_gt l) 0

/-- The dispatch weight of expert 1. -/
theorem disp1_at (h : Logits t wa aux wt bb j l) : disp1 t wa aux wt bb (ix2 0 j) = ((weight (soft l) 1 : ℝ) : EReal) := by
  pointwise [disp1, k0_pay50, k0_pay47, k0_pay48]
  rw [pay46_at h, pickA1_at h, pay43_at h, sitofp_bit, sitofp_bit, ← EReal.coe_one]
  exact weight_at _ (soft_gt l) 1

/-- The dispatch weight of expert 2. -/
theorem disp2_at (h : Logits t wa aux wt bb j l) : disp2 t wa aux wt bb (ix2 0 j) = ((weight (soft l) 2 : ℝ) : EReal) := by
  pointwise [disp2, k0_pay51, k0_pay47, k0_pay48]
  rw [pay46_at h, pickA2_at h, pay44_at h, sitofp_bit, sitofp_bit, ← EReal.coe_one]
  exact weight_at _ (soft_gt l) 2

/-- The dispatch weight of expert 3. -/
theorem disp3_at (h : Logits t wa aux wt bb j l) : disp3 t wa aux wt bb (ix2 0 j) = ((weight (soft l) 3 : ℝ) : EReal) := by
  pointwise [disp3, k0_pay52, k0_pay47, k0_pay48]
  rw [pay46_at h, pickA3_at h, pay45_at h, sitofp_bit, sitofp_bit, ← EReal.coe_one]
  exact weight_at _ (soft_gt l) 3

/-- The block of router weights is the softmax. -/
theorem raw_at (h : Logits t wa aux wt bb j l) (e : Fin 4) : rawOf t wa aux wt bb (ix2 j e) = ((soft l e : ℝ) : EReal) := by
  have hs := fun x : Fin 8 => sitofp_eye_nat x.val e.val (by omega) (by omega)
  have h0 := pay27_at h
  have h1 := pay28_at h
  have h2 := pay29_at h
  have h3 := pay30_at h
  pointwise [rawOf, k0_pay57, k0_pay56, k0_pay54, k0_pay53]
  simp only [hs]
  rw [sum_mul_pick _ e.val (by omega)]
  fin_cases e
  · exact h0
  · exact h1
  · exact h2
  · exact h3

/-- Two selections joined, as a number: nonzero when either is set. -/
theorem bit_ne_zero (p q : Prop) [Decidable p] [Decidable q] :
    Scalar.cmpi .ne (BitVec.setWidth 32 (BitVec.ofBool (decide ((FloatOps.sitofp .f32 (BitVec.setWidth 32
      (IntOp.ori (BitVec.ofBool (decide p)) (BitVec.ofBool (decide q)))) : Ideal .f32) ≠ (0 : EReal))))) 0#32
      = BitVec.ofBool (decide (p ∨ q)) := by
  have ho : IntOp.ori (BitVec.ofBool (decide p)) (BitVec.ofBool (decide q)) = BitVec.ofBool (decide (p ∨ q)) := by
    by_cases hp : p <;> by_cases hq : q <;> simp [hp, hq, IntOp.ori]
  rw [ho, sitofp_bit]
  by_cases h : p ∨ q
  · simp [h]; rfl
  · simp [h]; rfl

/-- The block of selection words is not zero exactly at the first and the second expert. -/
theorem mask_at (h : Logits t wa aux wt bb j l) (e : Fin 4) :
    Scalar.cmpi .ne (maskOf t wa aux wt bb (ix2 j e)) 0#32 = BitVec.ofBool (decide (first (soft l) = e ∨ second (soft l) = e)) := by
  have hs := fun x : Fin 8 => sitofp_eye_nat x.val e.val (by omega) (by omega)
  have h0 := pay32_at h
  have h1 := pickA1_at h
  have h2 := pickA2_at h
  have h3 := pickA3_at h
  have g0 := pay42_at h
  have g1 := pay43_at h
  have g2 := pay44_at h
  have g3 := pay45_at h
  pointwise [maskOf, k0_pay58, k0_pay55, k0_pay54, k0_pay53]
  simp only [hs]
  rw [sum_mul_pick _ e.val (by omega)]
  rw [← bit_ne_zero]
  fin_cases e
  · exact congrArg₂ (fun x y => Scalar.cmpi .ne (BitVec.setWidth 32 (BitVec.ofBool (decide ((FloatOps.sitofp .f32 (BitVec.setWidth 32
      (IntOp.ori x y)) : Ideal .f32) ≠ (0 : EReal))))) 0#32) h0 g0
  · exact congrArg₂ (fun x y => Scalar.cmpi .ne (BitVec.setWidth 32 (BitVec.ofBool (decide ((FloatOps.sitofp .f32 (BitVec.setWidth 32
      (IntOp.ori x y)) : Ideal .f32) ≠ (0 : EReal))))) 0#32) h1 g1
  · exact congrArg₂ (fun x y => Scalar.cmpi .ne (BitVec.setWidth 32 (BitVec.ofBool (decide ((FloatOps.sitofp .f32 (BitVec.setWidth 32
      (IntOp.ori x y)) : Ideal .f32) ≠ (0 : EReal))))) 0#32) h2 g2
  · exact congrArg₂ (fun x y => Scalar.cmpi .ne (BitVec.setWidth 32 (BitVec.ofBool (decide ((FloatOps.sitofp .f32 (BitVec.setWidth 32
      (IntOp.ori x y)) : Ideal .f32) ≠ (0 : EReal))))) 0#32) h3 g3

end Token

end Cert.Proof.Block

end
-- ==== Proof.Spline.lean ====
module

public import Mathlib.Analysis.SpecialFunctions.Trigonometric.Basic
public import Mathlib.Tactic.Linarith
public import Mathlib.Tactic.NormNum
public import Mathlib.Tactic.Ring

/-! The cubic B-spline on a uniform grid: the three-step recursion and its closed form. -/

@[expose] public section

noncomputable section

namespace Cert.Proof

/-- The knot numbered `j` of the grid: spacing a quarter, knot three at minus one. -/
def knot (j : ℝ) : ℝ := (-3 + j) * (1 / 4) - 1

/-- Degree zero: one on the half-open knot interval, zero elsewhere. -/
def base0 (x j : ℝ) : ℝ := if knot j ≤ x ∧ x < knot (j + 1) then 1 else 0

/-- Degree one, by the recursion. -/
def base1 (x j : ℝ) : ℝ :=
  (x - knot j) / (knot (j + 1) - knot j) * base0 x j
    + (knot (j + 2) - x) / (knot (j + 2) - knot (j + 1)) * base0 x (j + 1)

/-- Degree two, by the recursion. -/
def base2 (x j : ℝ) : ℝ :=
  (x - knot j) / (knot (j + 2) - knot j) * base1 x j
    + (knot (j + 3) - x) / (knot (j + 3) - knot (j + 1)) * base1 x (j + 1)

/-- Degree three, by the recursion. -/
def base3 (x j : ℝ) : ℝ :=
  (x - knot j) / (knot (j + 3) - knot j) * base2 x j
    + (knot (j + 4) - x) / (knot (j + 4) - knot (j + 1)) * base2 x (j + 1)

/-- The closed form on the scaled offset `s`: four cubic pieces on `[0, 4)`. -/
def cubic (s : ℝ) : ℝ :=
  if 0 ≤ s ∧ s < 4 then
    if s < 1 then s * s * s * (1 / 6)
    else if s < 2 then (-3 * (s * s * s) + 12 * (s * s) - 12 * s + 4) * (1 / 6)
    else if s < 3 then (3 * (s * s * s) - 24 * (s * s) + 60 * s - 44) * (1 / 6)
    else (4 - s) * (4 - s) * (4 - s) * (1 / 6)
  else 0

/-- Degree zero read on the scaled offset. -/
theorem base0_scaled (s j k : ℝ) :
    base0 ((s + j - 7) * (1 / 4)) (j + k) = if k ≤ s ∧ s < k + 1 then 1 else 0 := by
  unfold base0 knot
  refine if_congr (and_congr ⟨fun h => ?_, fun h => ?_⟩ ⟨fun h => ?_, fun h => ?_⟩) rfl rfl <;> linarith

/-- The recursion gives the closed form. -/
theorem base3_eq (x j : ℝ) : base3 x j = cubic (4 * x + 7 - j) := by
  obtain ⟨s, rfl⟩ : ∃ s, x = (s + j - 7) * (1 / 4) := ⟨4 * x + 7 - j, by ring⟩
  have h0 := base0_scaled s j 0
  have h1 := base0_scaled s j 1
  have h2 := base0_scaled s j 2
  have h3 := base0_scaled s j 3
  rw [add_zero] at h0
  have e2 : j + 1 + 1 = j + 2 := by ring
  have e3 : j + 1 + 2 = j + 3 := by ring
  have e4 : j + 1 + 3 = j + 4 := by ring
  have e5 : j + 2 + 1 = j + 3 := by ring
  have e6 : j + 2 + 2 = j + 4 := by ring
  have es : 4 * ((s + j - 7) * (1 / 4)) + 7 - j = s := by ring
  have d1 : ∀ a : ℝ, knot (a + 1) - knot a = 1 / 4 := fun a => by unfold knot; ring
  have d2 : ∀ a : ℝ, knot (a + 2) - knot a = 1 / 2 := fun a => by unfold knot; ring
  have d3 : ∀ a : ℝ, knot (a + 3) - knot a = 3 / 4 := fun a => by unfold knot; ring
  have d21 : knot (j + 2) - knot (j + 1) = 1 / 4 := by unfold knot; ring
  have d31 : knot (j + 3) - knot (j + 1) = 1 / 2 := by unfold knot; ring
  have d32 : knot (j + 3) - knot (j + 2) = 1 / 4 := by unfold knot; ring
  have d41 : knot (j + 4) - knot (j + 1) = 3 / 4 := by unfold knot; ring
  have d42 : knot (j + 4) - knot (j + 2) = 1 / 2 := by unfold knot; ring
  have d43 : knot (j + 4) - knot (j + 3) = 1 / 4 := by unfold knot; ring
  unfold base3 base2 base1
  simp only [e2, e3, e4, e5, e6]
  rw [es]
  simp only [h0, h1, h2, h3, d1, d2, d3, d21, d31, d32, d41, d42, d43]
  unfold knot cubic
  by_cases c0 : 0 ≤ s <;> by_cases c1 : s < 1 <;> by_cases c2 : s < 2 <;> by_cases c3 : s < 3 <;>
    by_cases c4 : s < 4 <;> first | (exfalso; linarith) | skip
  all_goals
    have n1 := not_lt.symm.trans (Iff.rfl : ¬ s < 1 ↔ _)
    norm_num [c0, c1, c2, c3, c4, not_lt.1, not_le.2, ← not_lt]
  all_goals ring_nf

end Cert.Proof

end
-- ==== Proof.Gram.lean ====
module

public import Mathlib.Algebra.BigOperators.Fin
public import Mathlib.Analysis.SpecialFunctions.Trigonometric.Basic
public import Mathlib.Tactic.Linarith
public import Mathlib.Tactic.NormNum
public import Mathlib.Tactic.Ring

/-! Centring a combination of rows, and its mean square as a quadratic form. -/

@[expose] public section

noncomputable section

namespace Cert.Proof

/-- A row with its mean taken off, the mean by a product with `w`. -/
def centred {n D : ℕ} (w : ℝ) (C : Fin n → Fin D → ℝ) (b : Fin n) (d : Fin D) : ℝ :=
  C b d - (∑ d', C b d') * w

/-- The matrix of mean products of the centred rows. -/
def gram {n D : ℕ} (w : ℝ) (C : Fin n → Fin D → ℝ) (b b' : Fin n) : ℝ :=
  (∑ d, centred w C b d * centred w C b' d) * w

/-- Taking the mean off a combination is combining the centred rows. -/
theorem combine_sub_mean {n D : ℕ} (w : ℝ) (C : Fin n → Fin D → ℝ) (z : Fin n → ℝ) (d : Fin D) :
    (∑ b, z b * C b d) - (∑ d', ∑ b, z b * C b d') * w = ∑ b, z b * centred w C b d := by
  unfold centred
  rw [Finset.sum_comm, Finset.sum_mul, ← Finset.sum_sub_distrib]
  refine Finset.sum_congr rfl fun b _ => ?_
  rw [← Finset.mul_sum]; ring

/-- The mean square of the centred combination is the quadratic form. -/
theorem mean_square {n D : ℕ} (w : ℝ) (C : Fin n → Fin D → ℝ) (z : Fin n → ℝ) :
    (∑ d, (∑ b, z b * centred w C b d) * (∑ b, z b * centred w C b d)) * w
      = ∑ b, z b * ∑ b', gram w C b b' * z b' := by
  have e : ∀ d, (∑ b, z b * centred w C b d) * (∑ b, z b * centred w C b d)
      = ∑ b, ∑ b', (z b * z b') * (centred w C b d * centred w C b' d) := fun d => by
    rw [Finset.sum_mul_sum]
    exact Finset.sum_congr rfl fun b _ => Finset.sum_congr rfl fun b' _ => by ring
  simp only [e, gram]
  rw [Finset.sum_comm, Finset.sum_mul]
  refine Finset.sum_congr rfl fun b _ => ?_
  rw [Finset.sum_comm, Finset.sum_mul, Finset.mul_sum]
  refine Finset.sum_congr rfl fun b' _ => ?_
  rw [← Finset.mul_sum]; ring

/-- The quadratic form is not negative when the weight is not. -/
theorem quadratic_nonneg {n D : ℕ} (w : ℝ) (hw : 0 ≤ w) (C : Fin n → Fin D → ℝ) (z : Fin n → ℝ) :
    0 ≤ ∑ b, z b * ∑ b', gram w C b b' * z b' := by
  rw [← mean_square]
  exact mul_nonneg (Finset.sum_nonneg fun d _ => mul_self_nonneg _) hw

/-- A sum over the 144 rows, taken block by block: 64, 32, 32 and 16. -/
theorem sum_rows (f : Fin 144 → ℝ) :
    ∑ b, f b = (∑ k : Fin 64, f ⟨k.val, by omega⟩) + (∑ k : Fin 32, f ⟨64 + k.val, by omega⟩)
      + (∑ k : Fin 32, f ⟨96 + k.val, by omega⟩) + ∑ k : Fin 16, f ⟨128 + k.val, by omega⟩ := by
  rw [show (∑ b, f b) = ∑ b : Fin (64 + 32 + 32 + 16), f b from rfl, Fin.sum_univ_add,
    Fin.sum_univ_add, Fin.sum_univ_add]
  rfl

/-- A sum over sixteen rows of which the last four are zero. -/
theorem sum_sixteen (f : Fin 16 → ℝ) (h : ∀ k : Fin 16, 12 ≤ k.val → f k = 0) :
    ∑ k, f k = (∑ k : Fin 11, f ⟨k.val, by omega⟩) + f 11 := by
  rw [show (∑ k, f k) = ∑ k : Fin (11 + 1 + 4), f k from rfl, Fin.sum_univ_add, Fin.sum_univ_add,
    Finset.sum_eq_zero (s := Finset.univ (α := Fin 4)) (fun k _ => h _ (by simp [Fin.natAdd]))]
  simp only [Fin.sum_univ_one, add_zero]
  rfl

/-- The sine of a sum, the cosines taken as sines a quarter turn on. -/
theorem sin_add_quarter (x y : ℝ) :
    Real.sin x * Real.sin (y + Real.pi * 2⁻¹) + Real.sin (x + Real.pi * 2⁻¹) * Real.sin y
      = Real.sin (x + y) := by
  rw [← div_eq_mul_inv, Real.sin_add_pi_div_two, Real.sin_add_pi_div_two, Real.sin_add]

/-- The cosine of a sum, the cosines taken as sines a quarter turn on. -/
theorem cos_add_quarter (x y : ℝ) :
    Real.sin (x + Real.pi * 2⁻¹) * Real.sin (y + Real.pi * 2⁻¹) - Real.sin x * Real.sin y
      = Real.cos (x + y) := by
  rw [← div_eq_mul_inv, Real.sin_add_pi_div_two, Real.sin_add_pi_div_two, Real.cos_add]

end Cert.Proof

end
-- ==== Proof.Model.lean ====
module

public import proofs.«01_k».proof.Proof.Spline
public import proofs.«01_k».proof.Proof.Gram
public import proofs.«01_k».proof.Proof.Router
public import Idealize.ShloMosaic.PureOps.Ideal
public import Mathlib.Analysis.SpecialFunctions.Exp
public import Mathlib.Analysis.SpecialFunctions.Pow.Real

/-! What both programs compute, over the reals: the router's scores, the basis rows, the coefficient rows. -/

@[expose] public section

noncomputable section

namespace Cert.Proof

open Idealize.ShloMosaic
open scoped BigOperators

/-- The number both programs write for a half turn: its 24-bit rounding. -/
def halfTurn : ℝ := 13176795 / 4194304

/-- The small number both programs add to the variance. -/
def small : ℝ := 10995116 / 1099511627776

/-- The small number is positive. -/
theorem small_pos : 0 < small := by unfold small; norm_num

/-- A router score: the weights times the auxiliary features and the time, and the bias. -/
def score (W : ℕ → Fin 4 → ℝ) (b : Fin 4 → ℝ) (x : ℝ) (a : Fin 64 → ℝ) (e : Fin 4) : ℝ :=
  (∑ k : Fin 64, W (1 + k.val) e * a k) + W 0 e * x + b e

/-- The Fourier rows: 32 sines, then 32 cosines. -/
def fourierRow (x : ℝ) (k : ℕ) : ℝ :=
  if k < 32 then Real.sin (x * halfTurn * (k + 1)) else Real.cos (x * halfTurn * (k - 31))

/-- The bell curve at an extended real. -/
def bell (u : EReal) : EReal := Ideal.exp (((-(1 / 2) : ℝ) : EReal) * (u * u))

/-- The bell curve at a real. -/
theorem bell_coe (u : ℝ) : bell (u : EReal) = ((Real.exp (-(1 / 2) * (u * u)) : ℝ) : EReal) := by
  unfold bell
  rw [← EReal.coe_mul, ← EReal.coe_mul, Ideal.exp_coe]

/-- The bell curve vanishes where the square is infinite. -/
theorem bell_infinite {u : EReal} (h : u * u = ⊤) : bell u = 0 := by
  unfold bell
  rw [h, EReal.coe_mul_top_of_neg (by norm_num)]
  rfl

/-- The square of an extended real that is no real is infinite. -/
theorem real_or_infinite (u : EReal) : (∃ r : ℝ, u = (r : EReal)) ∨ u * u = ⊤ := by
  induction u with
  | bot => exact Or.inr rfl
  | coe r => exact Or.inl ⟨r, rfl⟩
  | top => exact Or.inr rfl

/-- The bell curve's values are real everywhere. -/
theorem bell_real (u : EReal) : (((bell u).toReal : ℝ) : EReal) = bell u := by
  rcases real_or_infinite u with ⟨r, rfl⟩ | h
  · rw [bell_coe, EReal.toReal_coe]
  · rw [bell_infinite h, EReal.toReal_zero, EReal.coe_zero]

/-- The bell curve times one less the square. -/
def hat (u : EReal) : EReal := bell u * (1 - u * u)

/-- The hat's values are real everywhere. -/
theorem hat_real (u : EReal) : (((hat u).toReal : ℝ) : EReal) = hat u := by
  unfold hat
  rcases real_or_infinite u with ⟨r, rfl⟩ | h
  · rw [bell_coe, ← EReal.coe_one, ← EReal.coe_mul, ← EReal.coe_sub, ← EReal.coe_mul, EReal.toReal_coe]
  · rw [bell_infinite h, zero_mul, EReal.toReal_zero, EReal.coe_zero]

/-- A Gaussian row, the width by its logarithm. -/
def gaussRow (x : ℝ) (c s : EReal) : ℝ := (bell (((x : EReal) - c) * Ideal.exp (-s))).toReal

/-- A wavelet row. -/
def waveletRow (x : ℝ) (w s : EReal) : ℝ := (hat (((x : EReal) - w) * s⁻¹)).toReal

/-- A quotient by an extended real that is not zero. -/
theorem div_ne_zero (a : EReal) {b : EReal} (h : b ≠ 0) : Ideal.div a b = a * b⁻¹ := if_neg h

/-- A width whose logarithm is above minus infinity is not zero, and its inverse has the negated logarithm. -/
theorem exp_width {s : EReal} (h : s ≠ ⊥) : Ideal.exp s ≠ 0 ∧ (Ideal.exp s)⁻¹ = Ideal.exp (-s) := by
  induction s with
  | bot => exact absurd rfl h
  | coe r =>
    rw [← EReal.coe_neg, Ideal.exp_coe, Ideal.exp_coe, ← EReal.coe_inv, Real.exp_neg]
    exact ⟨EReal.coe_ne_zero.2 (Real.exp_ne_zero r), rfl⟩
  | top => exact ⟨EReal.top_ne_zero, EReal.inv_top⟩

/-- The base function of the spline expert. -/
def swish (x : ℝ) : ℝ := x * (1 / (1 + Real.exp (-x)))

/-- The spline expert's rows: eleven cubics, the base function, and four rows of zeros. -/
def splineRow (x : ℝ) (k : ℕ) : ℝ :=
  if k < 11 then cubic (4 * x + 7 - k) else if k = 11 then swish x else 0

/-- All basis rows, each weighted by its expert's share. -/
def basisRow (x : ℝ) (d : Fin 4 → ℝ) (gc gs ws wc : Fin 32 → EReal) (i : Fin 144) : ℝ :=
  if i.val < 64 then fourierRow x i.val * d 0
  else if h : i.val - 64 < 32 then gaussRow x (gc ⟨i.val - 64, h⟩) (gs ⟨i.val - 64, h⟩) * d 2
  else if h' : i.val - 64 - 32 < 32 then waveletRow x (ws ⟨i.val - 64 - 32, h'⟩) (wc ⟨i.val - 64 - 32, h'⟩) * d 3
  else splineRow x (i.val - 64 - 32 - 32) * d 1

/-- All coefficient rows, in the order of the basis rows. -/
def coefRow (fc : Fin 64 → Fin 2048 → ℝ) (gf wf : Fin 32 → Fin 2048 → ℝ) (sp : Fin 11 → Fin 2048 → ℝ)
    (ss sb : Fin 2048 → ℝ) (i : Fin 144) (d : Fin 2048) : ℝ :=
  if h : i.val < 64 then fc ⟨i.val, h⟩ d
  else if h' : i.val - 64 < 32 then gf ⟨i.val - 64, h'⟩ d
  else if h'' : i.val - 64 - 32 < 32 then wf ⟨i.val - 64 - 32, h''⟩ d
  else if h₃ : i.val - 64 - 32 - 32 < 11 then sp ⟨i.val - 64 - 32 - 32, h₃⟩ d * ss d
  else if i.val - 64 - 32 - 32 = 11 then sb d else 0

/-- The reciprocal of the embedding's length. -/
def share : ℝ := 1 / 2048

/-- The quadratic form of the rows: the variance of the combination. -/
def spread (C : Fin 144 → Fin 2048 → ℝ) (z : Fin 144 → ℝ) : ℝ :=
  ∑ b, z b * ∑ b', gram share C b b' * z b'

/-- The quadratic form is not negative. -/
theorem spread_nonneg (C : Fin 144 → Fin 2048 → ℝ) (z : Fin 144 → ℝ) : 0 ≤ spread C z :=
  quadratic_nonneg share (by unfold share; norm_num) C z

/-- The normalised combination of the rows. -/
def normed (C : Fin 144 → Fin 2048 → ℝ) (z : Fin 144 → ℝ) (d : Fin 2048) : ℝ :=
  ∑ b, z b * (Real.sqrt (spread C z + small))⁻¹ * centred share C b d

end Cert.Proof

end
-- ==== Proof.KernelBasis.lean ====
module

public import proofs.«01_k».proof.Proof.KernelRoute
public import proofs.«01_k».proof.Proof.Model
public import Mathlib.Tactic.Positivity
public import Mathlib.Tactic.FieldSimp

/-! The kernel's basis rows and its block of results, over the reals. -/

@[expose] public section

noncomputable section

namespace Cert.Proof.Block

open Idealize.ShloMosaic Idealize.ShloMosaic.TcCoe
open Cert.KernelIdeal Cert.KernelIdeal.Gen
open scoped BigOperators

/-! ## Literals -/

/-- The literal of a half turn. -/
theorem lit_half_turn : Ideal.ofBits .f32 0x40490FDB#32 = ((halfTurn : ℝ) : EReal) := by
  unfold halfTurn
  simp [Ideal.ofBits, Ideal.ieee, -EReal.coe_mul, -EReal.coe_neg]
  norm_num

/-- The literal added to the variance. -/
theorem lit_small : Ideal.ofBits .f32 0x3727C5AC#32 = ((small : ℝ) : EReal) := by
  unfold small
  simp [Ideal.ofBits, Ideal.ieee, -EReal.coe_mul, -EReal.coe_neg]
  norm_num

/-- The literal of the reciprocal of 2048. -/
theorem lit_share : Ideal.ofBits .f32 0x3A000000#32 = ((share : ℝ) : EReal) := by
  unfold share
  simp [Ideal.ofBits, Ideal.ieee, -EReal.coe_mul, -EReal.coe_neg]
  norm_num

/-- The literal minus one half. -/
theorem lit_neg_half : Ideal.ofBits .f32 0xBF000000#32 = ((-(1 / 2) : ℝ) : EReal) := by
  simp [Ideal.ofBits, Ideal.ieee, -EReal.coe_mul, -EReal.coe_neg]
  norm_num

/-- The literal two. -/
theorem lit_two : Ideal.ofBits .f32 0x40000000#32 = ((2 : ℝ) : EReal) := by
  simp [Ideal.ofBits, Ideal.ieee, -EReal.coe_mul, -EReal.coe_neg]
  try norm_num

/-- The literal three. -/
theorem lit_three : Ideal.ofBits .f32 0x40400000#32 = ((3 : ℝ) : EReal) := by
  simp [Ideal.ofBits, Ideal.ieee, -EReal.coe_mul, -EReal.coe_neg]
  try norm_num

/-- The literal four. -/
theorem lit_four : Ideal.ofBits .f32 0x40800000#32 = ((4 : ℝ) : EReal) := by
  simp [Ideal.ofBits, Ideal.ieee, -EReal.coe_mul, -EReal.coe_neg]
  try norm_num

/-- The literal seven. -/
theorem lit_seven : Ideal.ofBits .f32 0x40E00000#32 = ((7 : ℝ) : EReal) := by
  simp [Ideal.ofBits, Ideal.ieee, -EReal.coe_mul, -EReal.coe_neg]
  try norm_num

/-- The literal twelve. -/
theorem lit_twelve : Ideal.ofBits .f32 0x41400000#32 = ((12 : ℝ) : EReal) := by
  simp [Ideal.ofBits, Ideal.ieee, -EReal.coe_mul, -EReal.coe_neg]
  try norm_num

/-- The literal twenty-four. -/
theorem lit_twenty_four : Ideal.ofBits .f32 0x41C00000#32 = ((24 : ℝ) : EReal) := by
  simp [Ideal.ofBits, Ideal.ieee, -EReal.coe_mul, -EReal.coe_neg]
  try norm_num

/-- The literal forty-four. -/
theorem lit_forty_four : Ideal.ofBits .f32 0x42300000#32 = ((44 : ℝ) : EReal) := by
  simp [Ideal.ofBits, Ideal.ieee, -EReal.coe_mul, -EReal.coe_neg]
  try norm_num

/-- The literal sixty. -/
theorem lit_sixty : Ideal.ofBits .f32 0x42700000#32 = ((60 : ℝ) : EReal) := by
  simp [Ideal.ofBits, Ideal.ieee, -EReal.coe_mul, -EReal.coe_neg]
  try norm_num

/-- The literal minus three. -/
theorem lit_neg_three : Ideal.ofBits .f32 0xC0400000#32 = ((-3 : ℝ) : EReal) := by
  simp [Ideal.ofBits, Ideal.ieee, -EReal.coe_mul, -EReal.coe_neg]
  norm_num

/-- The named quarter turn. -/
theorem named_half_pi : Named.named (F := Ideal) κ "half_pi" (φ := .f32) 0x3FC90FDB#32 = ((Real.pi * 2⁻¹ : ℝ) : EReal) :=
  IdealRules.named_const.ideal_named_scalar _ _ _ _ rfl

/-- The named sixth. -/
theorem named_sixth : Named.named (F := Ideal) κ "sixth" (φ := .f32) 0x3E2AAAAB#32 = ((1 / 6 : ℝ) : EReal) :=
  IdealRules.named_const.ideal_named_scalar _ _ _ _ rfl

/-- A finite sum of reals among the extended reals. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- An index word as a number. -/
theorem sitofp_nat (n : ℕ) (h : n < 2 ^ 31) : (FloatOps.sitofp .f32 (BitVec.ofNat 32 n) : Ideal .f32) = ((n : ℝ) : EReal) := by
  show (((BitVec.ofNat 32 n).toInt : ℝ) : EReal) = _
  rw [WordCmp.toInt_ofNat_of_lt h]
  simp

/-! ## The Fourier rows -/

/-- One row of the 32 sines the kernel takes: 16 plain, 16 a quarter turn on. -/
def turn (a : Ideal .f32) (n : ℕ) : Ideal .f32 :=
  Ideal.sin
    (a * Ideal.ofBits .f32 0x40490FDB#32 *
        (FloatOps.sitofp .f32
          (Scalar.select (IntOp.cmpi .slt (BitVec.ofNat 32 n) 16#32) (IntOp.addi (BitVec.ofNat 32 n) 1#32)
            (IntOp.subi (BitVec.ofNat 32 n) 15#32)) : Ideal .f32) +
      Scalar.select (IntOp.cmpi .slt (BitVec.ofNat 32 n) 16#32) 0 (Named.named (F := Ideal) κ "half_pi" (φ := .f32) 0x3FC90FDB#32))

/-- The first sixteen sines are plain. -/
theorem turn_low (x : ℝ) (n : ℕ) (h : n < 16) : turn (x : EReal) n = ((Real.sin (x * halfTurn * (n + 1)) : ℝ) : EReal) := by
  unfold turn
  have c : IntOp.cmpi .slt (BitVec.ofNat 32 n) 16#32 = 1#1 := by
    rw [WordCmp.cmpi_slt_ofNat (by omega) (by omega)]; simp [h]
  rw [c, show Scalar.select 1#1 (IntOp.addi (BitVec.ofNat 32 n) 1#32) (IntOp.subi (BitVec.ofNat 32 n) 15#32) = BitVec.ofNat 32 (n + 1) from
      WordCmp.addi_ofNat n 1, sitofp_nat _ (by omega), lit_half_turn, ← EReal.coe_mul, ← EReal.coe_mul,
    show Scalar.select 1#1 (0 : EReal) (Named.named (F := Ideal) κ "half_pi" (φ := .f32) 0x3FC90FDB#32) = ((0 : ℝ) : EReal) from rfl, ← EReal.coe_add, Ideal.sin_coe]
  push_cast
  rw [add_zero]

/-- The last sixteen sines are a quarter turn on. -/
theorem turn_high (x : ℝ) (n : ℕ) (h : 16 ≤ n) (h' : n < 32) :
    turn (x : EReal) n = ((Real.sin (x * halfTurn * (n - 15) + Real.pi * 2⁻¹) : ℝ) : EReal) := by
  unfold turn
  have c : IntOp.cmpi .slt (BitVec.ofNat 32 n) 16#32 = 0#1 := by
    rw [WordCmp.cmpi_slt_ofNat (by omega) (by omega), decide_eq_false (by omega)]; rfl
  obtain ⟨m, rfl⟩ : ∃ m, n = m + 15 := ⟨n - 15, by omega⟩
  have s : IntOp.subi (BitVec.ofNat 32 (m + 15)) 15#32 = BitVec.ofNat 32 m := by
    show BitVec.ofNat 32 (m + 15) - 15#32 = _
    rw [← BitVec.ofNat_add_ofNat, BitVec.add_sub_cancel]
  rw [c, show Scalar.select 0#1 (IntOp.addi (BitVec.ofNat 32 (m + 15)) 1#32) (IntOp.subi (BitVec.ofNat 32 (m + 15)) 15#32) = BitVec.ofNat 32 m from s,
    sitofp_nat _ (by omega), lit_half_turn, ← EReal.coe_mul, ← EReal.coe_mul,
    show Scalar.select 0#1 (0 : EReal) (Named.named (F := Ideal) κ "half_pi" (φ := .f32) 0x3FC90FDB#32) = _ from named_half_pi, ← EReal.coe_add, Ideal.sin_coe]
  push_cast
  rw [show x * halfTurn * (↑m + 15 - 15) = x * halfTurn * m by ring]

/-- The kernel's 64 Fourier rows in terms of its 32 sines. -/
theorem pay59_turn (t : FVec Ideal S1x1024 .f32) (i : Fin 64) (j : Fin 1024) :
    k0_pay59 (F := Ideal) t (ix2 i j) =
      if i.val < 16 then turn (t (ix2 0 j)) i.val
      else if i.val - 16 < 16 then
        turn (t (ix2 0 j)) (i.val - 16) * turn (t (ix2 0 j)) 31 + turn (t (ix2 0 j)) (16 + (i.val - 16)) * turn (t (ix2 0 j)) 15
      else if i.val - 16 - 16 < 16 then turn (t (ix2 0 j)) (16 + (i.val - 16 - 16))
      else turn (t (ix2 0 j)) (16 + (i.val - 16 - 16 - 16)) * turn (t (ix2 0 j)) 31
        - turn (t (ix2 0 j)) (i.val - 16 - 16 - 16) * turn (t (ix2 0 j)) 15 := by
  pointwise [k0_pay59]
  simp only [turn, dite_eq_ite]

/-- The kernel's Fourier rows are the sines and cosines. -/
theorem fourier_at (t : FVec Ideal S1x1024 .f32) (x : ℝ) (j : Fin 1024) (ht : t (ix2 0 j) = (x : EReal)) (i : Fin 64) :
    k0_pay59 (F := Ideal) t (ix2 i j) = ((fourierRow x i.val : ℝ) : EReal) := by
  rw [pay59_turn, ht]
  unfold fourierRow
  have hi := i.isLt
  by_cases h0 : i.val < 16
  · rw [if_pos h0, turn_low x _ h0, if_pos (by omega)]
  rw [if_neg h0]
  obtain ⟨m, hm⟩ : ∃ m, i.val = m + 16 := ⟨i.val - 16, by omega⟩
  rw [hm]
  by_cases h1 : m < 16
  · rw [if_pos (by omega), if_pos (by omega), Nat.add_sub_cancel, turn_low x m h1, turn_high x 31 (by omega) (by omega),
      turn_high x (16 + m) (by omega) (by omega), turn_low x 15 (by omega), ← EReal.coe_mul, ← EReal.coe_mul, ← EReal.coe_add]
    congr 1
    push_cast
    have := sin_add_quarter (x * halfTurn * (m + 1)) (x * halfTurn * 16)
    rw [show x * halfTurn * (31 - 15) = x * halfTurn * 16 by ring, show x * halfTurn * (16 + (m : ℝ) - 15) = x * halfTurn * (m + 1) by ring,
      show x * halfTurn * (15 + 1) = x * halfTurn * 16 by ring, this]
    congr 1; ring
  rw [if_neg (by omega)]
  obtain ⟨n, rfl⟩ : ∃ n, m = n + 16 := ⟨m - 16, by omega⟩
  by_cases h2 : n < 16
  · rw [if_pos (by omega), if_neg (by omega), show n + 16 + 16 - 16 - 16 = n by omega, turn_high x (16 + n) (by omega) (by omega)]
    congr 1
    push_cast
    rw [← div_eq_mul_inv, Real.sin_add_pi_div_two]
    congr 1; ring
  · obtain ⟨l, rfl⟩ : ∃ l, n = l + 16 := ⟨n - 16, by omega⟩
    rw [if_neg (by omega), if_neg (by omega), show l + 16 + 16 + 16 - 16 - 16 - 16 = l by omega, turn_low x l (by omega),
      turn_high x 31 (by omega) (by omega),
      turn_high x (16 + l) (by omega) (by omega), turn_low x 15 (by omega), ← EReal.coe_mul, ← EReal.coe_mul, ← EReal.coe_sub]
    congr 1
    push_cast
    have := cos_add_quarter (x * halfTurn * (l + 1)) (x * halfTurn * 16)
    rw [show x * halfTurn * (31 - 15) = x * halfTurn * 16 by ring, show x * halfTurn * (16 + (l : ℝ) - 15) = x * halfTurn * (l + 1) by ring,
      show x * halfTurn * (15 + 1) = x * halfTurn * 16 by ring, this]
    congr 1; ring

/-! ## The Gaussian and wavelet rows -/

/-- A weighted Gaussian row. -/
theorem gauss_at (t b : FVec Ideal S1x1024 .f32) (gls gc : Vec Ideal S32x1 .f32) (x d : ℝ) (c s : Fin 32 → EReal) (j : Fin 1024)
    (ht : t (ix2 0 j) = (x : EReal)) (hb : b (ix2 0 j) = (d : EReal)) (hs : ∀ i, gls (ix2 i 0) = s i)
    (hc : ∀ i, gc (ix2 i 0) = c i) (i : Fin 32) :
    k0_pay62 t b gls gc (ix2 i j) = ((gaussRow x (c i) (s i) * d : ℝ) : EReal) := by
  pointwise [k0_pay62]
  rw [ht, hb, hs, hc, lit_neg_half, zero_sub, EReal.coe_mul]
  unfold gaussRow
  rw [bell_real]
  rfl

/-- A weighted wavelet row. -/
theorem wavelet_at (t b : FVec Ideal S1x1024 .f32) (wsh wsc : Vec Ideal S32x1 .f32) (x d : ℝ) (c s : Fin 32 → EReal) (j : Fin 1024)
    (ht : t (ix2 0 j) = (x : EReal)) (hb : b (ix2 0 j) = (d : EReal)) (hs : ∀ i, wsh (ix2 i 0) = s i)
    (hc : ∀ i, wsc (ix2 i 0) = c i) (h0 : ∀ i, c i ≠ 0) (i : Fin 32) :
    k0_pay63 t b wsh wsc (ix2 i j) = ((waveletRow x (s i) (c i) * d : ℝ) : EReal) := by
  pointwise [k0_pay63]
  rw [ht, hb, hs, hc, lit_neg_half, div_ne_zero _ (h0 i), one_mul, EReal.coe_mul]
  unfold waveletRow
  rw [hat_real]
  rfl

/-! ## The spline rows -/

section Knots
variable {t : Vec Ideal S1x1024 .f32} {x : ℝ} {j : Fin 1024}

/-- The scaled offset from knot `i`. -/
theorem offset_at (ht : t (ix2 0 j) = (x : EReal)) (i : Fin 16) :
    onKnots t k0_pay66 (ix2 i j) = ((4 * x + 7 - i.val : ℝ) : EReal) := by
  pointwise [onKnots, k0_pay64, k0_pay65, k0_pay66, k0_pay15]
  rw [ht, lit_four, lit_seven, sitofp_nat _ (by omega), ← EReal.coe_mul, ← EReal.coe_add, ← EReal.coe_sub, mul_comm x 4]

/-- The first cubic piece. -/
theorem piece0_at (ht : t (ix2 0 j) = (x : EReal)) (i : Fin 16) (s : ℝ) (hs : s = 4 * x + 7 - i.val) :
    onKnots t k0_pay69 (ix2 i j) = ((s * s * s * (1 / 6) : ℝ) : EReal) := by
  have e := offset_at ht i
  rw [← hs] at e
  have h : onKnots t k0_pay69 (ix2 i j) = onKnots t k0_pay66 (ix2 i j) * onKnots t k0_pay66 (ix2 i j) * onKnots t k0_pay66 (ix2 i j) * Named.named (F := Ideal) κ "sixth" (φ := .f32) 0x3E2AAAAB#32 := by
    pointwise [onKnots, k0_pay64, k0_pay65, k0_pay66, k0_pay67, k0_pay68, k0_pay15, k0_pay69]
  rw [h]
  rw [e, named_sixth, ← EReal.coe_mul, ← EReal.coe_mul, ← EReal.coe_mul]

/-- The second cubic piece. -/
theorem piece1_at (ht : t (ix2 0 j) = (x : EReal)) (i : Fin 16) (s : ℝ) (hs : s = 4 * x + 7 - i.val) :
    onKnots t k0_pay70 (ix2 i j) = (((-3 * (s * s * s) + 12 * (s * s) - 12 * s + 4) * (1 / 6) : ℝ) : EReal) := by
  have e := offset_at ht i
  rw [← hs] at e
  have h : onKnots t k0_pay70 (ix2 i j) = (Ideal.ofBits .f32 0xC0400000#32 * (onKnots t k0_pay66 (ix2 i j) * onKnots t k0_pay66 (ix2 i j) * onKnots t k0_pay66 (ix2 i j))
    + Ideal.ofBits .f32 0x41400000#32 * (onKnots t k0_pay66 (ix2 i j) * onKnots t k0_pay66 (ix2 i j))
    - Ideal.ofBits .f32 0x41400000#32 * onKnots t k0_pay66 (ix2 i j) + Ideal.ofBits .f32 0x40800000#32)
    * Named.named (F := Ideal) κ "sixth" (φ := .f32) 0x3E2AAAAB#32 := by
    pointwise [onKnots, k0_pay64, k0_pay65, k0_pay66, k0_pay67, k0_pay68, k0_pay15, k0_pay70]
  rw [h]
  rw [e, named_sixth, lit_neg_three, lit_twelve, lit_four]
  simp only [← EReal.coe_mul, ← EReal.coe_add, ← EReal.coe_sub]

/-- The third cubic piece. -/
theorem piece2_at (ht : t (ix2 0 j) = (x : EReal)) (i : Fin 16) (s : ℝ) (hs : s = 4 * x + 7 - i.val) :
    onKnots t k0_pay71 (ix2 i j) = (((3 * (s * s * s) - 24 * (s * s) + 60 * s - 44) * (1 / 6) : ℝ) : EReal) := by
  have e := offset_at ht i
  rw [← hs] at e
  have h : onKnots t k0_pay71 (ix2 i j) = (Ideal.ofBits .f32 0x40400000#32 * (onKnots t k0_pay66 (ix2 i j) * onKnots t k0_pay66 (ix2 i j) * onKnots t k0_pay66 (ix2 i j))
    - Ideal.ofBits .f32 0x41C00000#32 * (onKnots t k0_pay66 (ix2 i j) * onKnots t k0_pay66 (ix2 i j))
    + Ideal.ofBits .f32 0x42700000#32 * onKnots t k0_pay66 (ix2 i j) - Ideal.ofBits .f32 0x42300000#32)
    * Named.named (F := Ideal) κ "sixth" (φ := .f32) 0x3E2AAAAB#32 := by
    pointwise [onKnots, k0_pay64, k0_pay65, k0_pay66, k0_pay67, k0_pay68, k0_pay15, k0_pay71]
  rw [h]
  rw [e, named_sixth, lit_three, lit_twenty_four, lit_sixty, lit_forty_four]
  simp only [← EReal.coe_mul, ← EReal.coe_add, ← EReal.coe_sub]

/-- The fourth cubic piece. -/
theorem piece3_at (ht : t (ix2 0 j) = (x : EReal)) (i : Fin 16) (s : ℝ) (hs : s = 4 * x + 7 - i.val) :
    onKnots t k0_pay72 (ix2 i j) = (((4 - s) * (4 - s) * (4 - s) * (1 / 6) : ℝ) : EReal) := by
  have e := offset_at ht i
  rw [← hs] at e
  have h : onKnots t k0_pay72 (ix2 i j) = (Ideal.ofBits .f32 0x40800000#32 - onKnots t k0_pay66 (ix2 i j)) * (Ideal.ofBits .f32 0x40800000#32 - onKnots t k0_pay66 (ix2 i j))
    * (Ideal.ofBits .f32 0x40800000#32 - onKnots t k0_pay66 (ix2 i j)) * Named.named (F := Ideal) κ "sixth" (φ := .f32) 0x3E2AAAAB#32 := by
    pointwise [onKnots, k0_pay64, k0_pay65, k0_pay66, k0_pay67, k0_pay68, k0_pay15, k0_pay72]
  rw [h]
  rw [e, named_sixth, lit_four]
  simp only [← EReal.coe_mul, ← EReal.coe_add, ← EReal.coe_sub]

/-- Whether the offset lies on the support. -/
theorem within_at (ht : t (ix2 0 j) = (x : EReal)) (i : Fin 16) (s : ℝ) (hs : s = 4 * x + 7 - i.val) :
    onKnots t k0_pay73 (ix2 i j) = BitVec.ofBool (decide (0 ≤ s ∧ s < 4)) := by
  have e := offset_at ht i
  rw [← hs] at e
  have h : onKnots t k0_pay73 (ix2 i j) = IntOp.andi (BitVec.ofBool (decide (0 ≤ onKnots t k0_pay66 (ix2 i j))))
      (BitVec.ofBool (decide (onKnots t k0_pay66 (ix2 i j) < Ideal.ofBits .f32 0x40800000#32))) := by
    pointwise [onKnots, k0_pay64, k0_pay65, k0_pay66, k0_pay15, k0_pay73]
  rw [h, e, lit_four, WordCmp.andi_ofBool, ← Bool.decide_and]
  exact congrArg _ (decide_eq_decide.mpr (and_congr EReal.coe_nonneg EReal.coe_lt_coe_iff))

/-- Whether the offset lies on the first piece. -/
theorem early_at (ht : t (ix2 0 j) = (x : EReal)) (i : Fin 16) (s : ℝ) (hs : s = 4 * x + 7 - i.val) :
    onKnots t k0_pay74 (ix2 i j) = BitVec.ofBool (decide (s < 1)) := by
  have e := offset_at ht i
  rw [← hs] at e
  have h : onKnots t k0_pay74 (ix2 i j) = BitVec.ofBool (decide (onKnots t k0_pay66 (ix2 i j) < 1)) := by
    pointwise [onKnots, k0_pay64, k0_pay65, k0_pay66, k0_pay15, k0_pay74]
  rw [h, e, ← EReal.coe_one]
  exact congrArg _ (decide_eq_decide.mpr EReal.coe_lt_coe_iff)

end Knots

/-- A selection by a decided word. -/
theorem select_decide {α : Type} (p : Prop) [Decidable p] (a b : α) : Scalar.select (BitVec.ofBool (decide p)) a b = if p then a else b := by
  by_cases h : p <;> simp [h, Scalar.select]

end Cert.Proof.Block

end
-- ==== Proof.KernelOut.lean ====
module

public import proofs.«01_k».proof.Proof.KernelBasis

/-! The kernel's coefficient rows, basis rows and block of results, over the reals. -/

@[expose] public section

noncomputable section

namespace Cert.Proof.Block

open Idealize.ShloMosaic Idealize.ShloMosaic.TcCoe
open Cert.KernelIdeal Cert.KernelIdeal.Gen
open scoped BigOperators

/-! ## The coefficient rows -/

section Coefficients
variable {four : Vec Ideal S64x2048 .f32} {gcf wcf : Vec Ideal S32x2048 .f32} {spc : Vec Ideal S11x2048 .f32} {ssp sbase : Vec Ideal S1x2048 .f32}
  {fc : Fin 64 → Fin 2048 → ℝ} {gf wf : Fin 32 → Fin 2048 → ℝ} {sp : Fin 11 → Fin 2048 → ℝ} {ss sb : Fin 2048 → ℝ}

/-- The spline expert's coefficient rows. -/
theorem splineCoef_at (i : Fin 16) (d : Fin 2048) :
    k0_pay5 (F := Ideal) spc ssp sbase (ix2 i d) =
      if h : i.val < 11 then spc (ix2 ⟨i.val, h⟩ d) * ssp (ix2 0 d) else if i.val = 11 then sbase (ix2 0 d) else 0 := by
  pointwise [k0_pay5]
  have hi := i.isLt
  by_cases h : i.val < 11
  · rw [dif_pos h, dif_pos h]
  · rw [dif_neg h, dif_neg h]
    by_cases h' : i.val = 11
    · rw [dif_pos (by omega), if_pos h']
      exact congrArg (fun k => sbase (ix2 k d)) (Fin.ext (by simp; omega))
    · rw [dif_neg (by omega), if_neg h']

/-- The stacked coefficient rows. -/
theorem rows_at (hfc : ∀ i d, four (ix2 i d) = (fc i d : EReal)) (hgf : ∀ i d, gcf (ix2 i d) = (gf i d : EReal))
    (hwf : ∀ i d, wcf (ix2 i d) = (wf i d : EReal)) (hsp : ∀ i d, spc (ix2 i d) = (sp i d : EReal))
    (hss : ∀ d, ssp (ix2 0 d) = (ss d : EReal)) (hsb : ∀ d, sbase (ix2 0 d) = (sb d : EReal)) (i : Fin 144) (d : Fin 2048) :
    rowsOf (k0_pay2 four) (k0_pay3 gcf) (k0_pay4 wcf) (k0_pay5 spc ssp sbase) (ix2 i d) = ((coefRow fc gf wf sp ss sb i d : ℝ) : EReal) := by
  have hi := i.isLt
  have e2 : ∀ (k : Fin 64) (l : Fin 2048), k0_pay2 four (ix2 k l) = four (ix2 k l) := fun k l => by pointwise [k0_pay2]
  have e3 : ∀ (k : Fin 32) (l : Fin 2048), k0_pay3 gcf (ix2 k l) = gcf (ix2 k l) := fun k l => by pointwise [k0_pay3]
  have e4 : ∀ (k : Fin 32) (l : Fin 2048), k0_pay4 wcf (ix2 k l) = wcf (ix2 k l) := fun k l => by pointwise [k0_pay4]
  show (if h : i.val < 64 then k0_pay2 four (ix2 ⟨i.val, h⟩ d)
    else if h' : i.val < 96 then k0_pay3 gcf (ix2 ⟨i.val - 64, by omega⟩ d)
    else if h'' : i.val < 128 then k0_pay4 wcf (ix2 ⟨i.val - 96, by omega⟩ d)
    else k0_pay5 spc ssp sbase (ix2 ⟨i.val - 128, by omega⟩ d)) = _
  unfold coefRow
  by_cases h : i.val < 64
  · rw [dif_pos h, dif_pos h, e2, hfc]
  rw [dif_neg h, dif_neg h]
  by_cases h' : i.val - 64 < 32
  · rw [dif_pos (by omega : i.val < 96), dif_pos h', e3, hgf]
  rw [dif_neg (by omega : ¬ i.val < 96), dif_neg h']
  by_cases h'' : i.val - 64 - 32 < 32
  · rw [dif_pos (by omega : i.val < 128), dif_pos h'', e4, hwf]
    exact congrArg (fun k => ((wf k d : ℝ) : EReal)) (Fin.ext (by simp; omega))
  rw [dif_neg (by omega : ¬ i.val < 128), dif_neg h'', splineCoef_at]
  have e : i.val - 64 - 32 - 32 = i.val - 128 := by omega
  simp only [e]
  by_cases h₃ : i.val - 128 < 11
  · rw [dif_pos h₃, dif_pos h₃, hsp, hss, ← EReal.coe_mul]
  rw [dif_neg h₃, dif_neg h₃]
  by_cases h₄ : i.val - 128 = 11
  · rw [if_pos h₄, if_pos h₄, hsb]
  · rw [if_neg h₄, if_neg h₄, EReal.coe_zero]

/-- Rows less their means. -/
theorem centred_at (x : Vec Ideal S144x2048 .f32) (C : Fin 144 → Fin 2048 → ℝ) (hx : ∀ i d, x (ix2 i d) = (C i d : EReal))
    (i : Fin 144) (d : Fin 2048) : k0_pay6 x (ix2 i d) = ((centred share C i d : ℝ) : EReal) := by
  pointwise [k0_pay6]
  simp only [hx]
  rw [lit_share, ← coe_sum, ← EReal.coe_mul, ← EReal.coe_sub]
  rfl

/-- The stored rows are the centred rows. -/
theorem cc_at (C : Fin 144 → Fin 2048 → ℝ)
    (hx : ∀ i d, rowsOf (k0_pay2 four) (k0_pay3 gcf) (k0_pay4 wcf) (k0_pay5 spc ssp sbase) (ix2 i d) = (C i d : EReal))
    (i : Fin 144) (d : Fin 2048) : ccOf four gcf wcf spc ssp sbase (ix2 i d) = ((centred share C i d : ℝ) : EReal) := by
  unfold ccOf
  have e : ∀ (y : FVec Ideal S144x2048 .f32), k0_pay7 y (ix2 i d) = y (ix2 i d) := fun y => by pointwise [k0_pay7]
  rw [e, centred_at _ C hx]

/-- The stored matrix is the Gram matrix of the centred rows. -/
theorem gg_at (C : Fin 144 → Fin 2048 → ℝ)
    (hx : ∀ i d, rowsOf (k0_pay2 four) (k0_pay3 gcf) (k0_pay4 wcf) (k0_pay5 spc ssp sbase) (ix2 i d) = (C i d : EReal))
    (i i' : Fin 144) : ggOf four gcf wcf spc ssp sbase (ix2 i i') = ((gram share C i i' : ℝ) : EReal) := by
  unfold ggOf
  generalize hy : k0_pay6 (rowsOf (k0_pay2 four) (k0_pay3 gcf) (k0_pay4 wcf) (k0_pay5 spc ssp sbase)) = y
  have hc : ∀ k d, y (ix2 k d) = ((centred share C k d : ℝ) : EReal) := fun k d => by rw [← hy, centred_at _ C hx]
  pointwise [k0_pay8]
  simp only [hc, ← EReal.coe_mul]
  rw [lit_share, ← coe_sum, ← EReal.coe_mul]
  rfl

end Coefficients

/-! ## The basis rows -/

/-- The spline rows before their share, in terms of the pieces. -/
def splineCell (a : Ideal .f32) (s : Ideal .f32) (p0 p1 p2 p3 : Ideal .f32) (within early : BitVec 1) (k : ℕ) : EReal :=
  Scalar.select (IntOp.cmpi .slt (BitVec.ofNat 32 k) 11#32)
      (Scalar.select within
        (Scalar.select early p0
          (if (s : EReal) < Ideal.ofBits .f32 0x40000000#32 then p1 else if (s : EReal) < Ideal.ofBits .f32 0x40400000#32 then p2 else p3)) 0) 0
    + Scalar.select (IntOp.cmpi .eq (BitVec.ofNat 32 k) 11#32) (Ideal.div a (1 + Ideal.exp (0 - a))) 0

/-- The spline cell is the spline row. -/
theorem splineCell_eq {t : Vec Ideal S1x1024 .f32} {x : ℝ} {j : Fin 1024} (ht : t (ix2 0 j) = (x : EReal)) (i : Fin 16) :
    splineCell (k0_pay15 t (ix2 0 j)) (onKnots t k0_pay66 (ix2 i j)) (onKnots t k0_pay69 (ix2 i j)) (onKnots t k0_pay70 (ix2 i j))
      (onKnots t k0_pay71 (ix2 i j)) (onKnots t k0_pay72 (ix2 i j)) (onKnots t k0_pay73 (ix2 i j)) (onKnots t k0_pay74 (ix2 i j)) i.val
      = ((splineRow x i.val : ℝ) : EReal) := by
  have hi := i.isLt
  have e15 : k0_pay15 t (ix2 0 j) = t (ix2 0 j) := by pointwise [k0_pay15]
  unfold splineCell
  rw [e15, ht, piece0_at ht i _ rfl, piece1_at ht i _ rfl, piece2_at ht i _ rfl, piece3_at ht i _ rfl, within_at ht i _ rfl, early_at ht i _ rfl,
    offset_at ht i, WordCmp.cmpi_slt_ofNat (by omega) (by omega), WordCmp.cmpi_eq_ofNat (by omega) (by omega), lit_two, lit_three]
  simp only [select_decide, EReal.coe_lt_coe_iff]
  unfold splineRow cubic swish
  by_cases h : i.val < 11
  · rw [if_pos h, if_pos h, if_neg (by omega : ¬ i.val = 11), add_zero]
    generalize (4 * x + 7 - (i.val : ℝ)) = s
    by_cases c0 : 0 ≤ s ∧ s < 4
    · rw [if_pos c0, if_pos c0]
      by_cases c1 : s < 1
      · rw [if_pos c1, if_pos c1]
      rw [if_neg c1, if_neg c1]
      by_cases c2 : s < 2
      · rw [if_pos c2, if_pos c2]
      rw [if_neg c2, if_neg c2]
      by_cases c3 : s < 3
      · rw [if_pos c3, if_pos c3]
      rw [if_neg c3, if_neg c3]
    · rw [if_neg c0, if_neg c0, EReal.coe_zero]
  rw [if_neg h, if_neg h, zero_add]
  by_cases h' : i.val = 11
  · have hp : (1 + Real.exp (-x)) ≠ 0 := by positivity
    rw [if_pos h', if_pos h', ← EReal.coe_zero, ← EReal.coe_one, ← EReal.coe_sub, Ideal.exp_coe, ← EReal.coe_add, zero_sub, Ideal.div_coe hp,
      ← EReal.coe_mul]
  · rw [if_neg h', if_neg h', EReal.coe_zero]

/-- The stacked rows, in terms of the four groups. -/
def stacked (a b : FVec Ideal S1x1024 .f32) (c : FVec Ideal S64x1024 .f32) (d e : FVec Ideal S32x1024 .f32)
    (g h k l o : FVec Ideal S16x1024 .f32) (p q : IVec S16x1024 1) (j : Fin 1024) (i : Fin 144) : EReal :=
  if h₁ : i.val < 64 then c (ix2 ⟨i.val, h₁⟩ j)
  else if h₂ : i.val - 64 < 32 then d (ix2 ⟨i.val - 64, h₂⟩ j)
  else if h₃ : i.val - 64 - 32 < 32 then e (ix2 ⟨i.val - 64 - 32, h₃⟩ j)
  else
    have w : i.val - 64 - 32 - 32 < 16 := by have := i.isLt; omega
    splineCell (a (ix2 0 j)) (g (ix2 ⟨_, w⟩ j)) (h (ix2 ⟨_, w⟩ j)) (k (ix2 ⟨_, w⟩ j)) (l (ix2 ⟨_, w⟩ j)) (o (ix2 ⟨_, w⟩ j))
      (p (ix2 ⟨_, w⟩ j)) (q (ix2 ⟨_, w⟩ j)) (i.val - 64 - 32 - 32) * b (ix2 0 j)

/-- The scaled rows in terms of the stacked rows. -/
theorem pay75_at (a b c d e g h k l o p q r) (i : Fin 144) (j : Fin 1024) :
    k0_pay75 (F := Ideal) a b c d e (iota .tc S16x1 32 [0] iota_S16x1_d0_w32) g h k l o p q r (ix2 i j) =
      stacked a b c d e g h k l o p q j i
        * Ideal.rsqrt ((∑ x : Fin 144, stacked a b c d e g h k l o p q j x
            * ∑ x' : Fin 144, r (ix2 x x') * stacked a b c d e g h k l o p q j x') + Ideal.ofBits .f32 0x3727C5AC#32) := by
  pointwise [k0_pay75]
  rfl

section Basis
variable {t : Vec Ideal S1x1024 .f32} {wa : Vec Ideal S8x64 .f32} {aux : Vec Ideal S1024x64 .f32} {wt bb : Vec Ideal S8x1 .f32}
  {gls gc wsc wsh : Vec Ideal S32x1 .f32} {g : Vec Ideal S144x144 .f32} {cc : Vec Ideal S144x2048 .f32}
  {x : ℝ} {l : Fin 4 → ℝ} {j : Fin 1024} {rgs rgc rwc rws : Fin 32 → EReal} {C : Fin 144 → Fin 2048 → ℝ}

/-- The basis rows of one token, each weighted by its expert's share and scaled to unit variance. -/
theorem basis_at (hl : Logits t wa aux wt bb j l) (ht : t (ix2 0 j) = (x : EReal)) (hgs : ∀ i, gls (ix2 i 0) = rgs i)
    (hgc : ∀ i, gc (ix2 i 0) = rgc i) (hwc : ∀ i, wsc (ix2 i 0) = rwc i) (hws : ∀ i, wsh (ix2 i 0) = rws i)
    (h0 : ∀ i, rwc i ≠ 0) (hg : ∀ i i', g (ix2 i i') = ((gram share C i i' : ℝ) : EReal)) (i : Fin 144) :
    basisOf t wa aux wt bb gls gc wsc wsh g (ix2 i j) =
      ((basisRow x (weight (soft l)) rgc rgs rws rwc i
        * (Real.sqrt (spread C (basisRow x (weight (soft l)) rgc rgs rws rwc) + small))⁻¹ : ℝ) : EReal) := by
  have e15 : k0_pay15 t (ix2 0 j) = t (ix2 0 j) := by pointwise [k0_pay15]
  have e61 : ∀ (u : FVec Ideal S64x1024 .f32) (v : FVec Ideal S1x1024 .f32) (k : Fin 64),
      k0_pay61 u (k0_pay60 v) (ix2 k j) = u (ix2 k j) * v (ix2 0 j) := fun u v k => by pointwise [k0_pay61, k0_pay60]
  unfold basisOf
  rw [pay75_at]
  generalize hz : stacked _ _ _ _ _ _ _ _ _ _ _ _ j = z
  have ez : ∀ i, z i = ((basisRow x (weight (soft l)) rgc rgs rws rwc i : ℝ) : EReal) := fun i => by
    have hi := i.isLt
    rw [← hz]
    unfold stacked basisRow
    by_cases h : i.val < 64
    · rw [dif_pos h, if_pos h, e61, fourier_at _ x j (e15.trans ht), disp0_at hl, ← EReal.coe_mul]
    rw [dif_neg h, if_neg h]
    by_cases h' : i.val - 64 < 32
    · rw [dif_pos h', dif_pos h', gauss_at _ _ _ _ x _ rgc rgs j (e15.trans ht) (disp2_at hl) hgs hgc]
    rw [dif_neg h', dif_neg h']
    by_cases h'' : i.val - 64 - 32 < 32
    · rw [dif_pos h'', dif_pos h'', wavelet_at _ _ _ _ x _ rwc rws j (e15.trans ht) (disp3_at hl) hws hwc h0]
    rw [dif_neg h'', dif_neg h'']
    have w : i.val - 64 - 32 - 32 < 16 := by omega
    rw [disp1_at hl, EReal.coe_mul]
    exact congrArg (· * _) (splineCell_eq ht ⟨_, w⟩)
  generalize basisRow x (weight (soft l)) rgc rgs rws rwc = y at ez
  simp only [ez, hg, ← EReal.coe_mul, ← coe_sum]
  have hpos : 0 < spread C y + small := add_pos_of_nonneg_of_pos (spread_nonneg C y) small_pos
  rw [lit_small, ← EReal.coe_add]
  change _ * Ideal.rsqrt ((spread C y + small : ℝ) : EReal) = _
  rw [Ideal.rsqrt_coe, if_neg (not_lt.2 hpos.le), if_neg hpos.ne', ← EReal.coe_mul]

/-- One result of the block: the normalised combination. -/
theorem out_at (hl : Logits t wa aux wt bb j l) (ht : t (ix2 0 j) = (x : EReal)) (hgs : ∀ i, gls (ix2 i 0) = rgs i)
    (hgc : ∀ i, gc (ix2 i 0) = rgc i) (hwc : ∀ i, wsc (ix2 i 0) = rwc i) (hws : ∀ i, wsh (ix2 i 0) = rws i)
    (h0 : ∀ i, rwc i ≠ 0) (hg : ∀ i i', g (ix2 i i') = ((gram share C i i' : ℝ) : EReal))
    (hc : ∀ i d, cc (ix2 i d) = ((centred share C i d : ℝ) : EReal)) (d : Fin 2048) :
    outOf t wa aux wt bb gls gc wsc wsh g cc (ix2 j d) =
      ((normed C (basisRow x (weight (soft l)) rgc rgs rws rwc) d : ℝ) : EReal) := by
  unfold outOf
  have e := basis_at hl ht hgs hgc hwc hws h0 hg
  generalize basisOf t wa aux wt bb gls gc wsc wsh g = y at e
  pointwise [k0_pay1]
  simp only [e, hc, ← EReal.coe_mul, ← coe_sum]
  rfl

end Basis

end Cert.Proof.Block

end
-- ==== Proof.Inputs.lean ====
module

public import proofs.«01_k».proof.Defs
public import proofs.«01_k».proof.Proof.Consts
public import proofs.«01_k».proof.Proof.Model
public import Idealize.ShloMosaic.Lib.Pointwise

/-! The arguments as reals: what the preconditions say of them, and the model's values at them. -/

@[expose] public section

noncomputable section

namespace Cert.Proof

open Idealize.ShloMosaic

/-- The shape facts the preconditions' program takes. -/
theorem pre_facts : Cert.Pre_trained_inputs.Facts where
  bcast_S_S8192x1 := by decide
  bcast_S_S8192x64 := by decide
  bcast_S_S65x4 := by decide
  bcast_S_S4 := by decide
  bcast_S_S64x2048 := by decide
  bcast_S_S11x2048 := by decide
  bcast_S_S2048 := by decide
  bcast_S_S32 := by decide
  bcast_S_S32x2048 := by decide

/-- A decided bit that is one. -/
theorem of_bit {p : Prop} [Decidable p] (h : BitVec.ofBool (decide p) = 1#1) : p := by
  by_contra n
  rw [decide_eq_false n] at h
  exact absurd h (by decide)

/-- An array whose magnitudes are all below infinity holds reals. -/
theorem real_of_abs {s S : Shape} {b : Fin S.rank → Fin s.rank} (hb : S.BroadcastsInDim s b) (x : FVec Ideal s .f32)
    (h : cmpf .olt (Host.absf x) (broadcastInDim s b hb (constant S .f32 0x7F800000#32)) = fun _ => 1#1) (i : s.Idx) :
    x i = (((x i : EReal).toReal : ℝ) : EReal) := by
  have h' : max (x i : EReal) (-(x i)) < Ideal.ofBits .f32 0x7F800000#32 := of_bit (congrFun h i)
  rw [show Ideal.ofBits .f32 0x7F800000#32 = (⊤ : EReal) by simp [Ideal.ofBits, Ideal.ieee], max_lt_iff] at h'
  refine (EReal.coe_toReal h'.1.ne fun e => ?_).symm
  rw [e] at h'
  exact absurd h'.2 (by simp)

/-- An array that differs from a literal everywhere. -/
theorem ne_of_une {s S : Shape} {b : Fin S.rank → Fin s.rank} (hb : S.BroadcastsInDim s b) (x : FVec Ideal s .f32) (w : BitVec 32)
    (h : cmpf .une x (broadcastInDim s b hb (constant S .f32 w)) = fun _ => 1#1) (i : s.Idx) : (x i : EReal) ≠ Ideal.ofBits .f32 w :=
  of_bit (congrFun h i)

/-- An array that equals a literal everywhere. -/
theorem eq_of_oeq {s S : Shape} {b : Fin S.rank → Fin s.rank} (hb : S.BroadcastsInDim s b) (x : FVec Ideal s .f32) (w : BitVec 32)
    (h : cmpf .oeq x (broadcastInDim s b hb (constant S .f32 w)) = fun _ => 1#1) (i : s.Idx) : (x i : EReal) = Ideal.ofBits .f32 w :=
  of_bit (congrFun h i)

/-! ## The arguments as reals -/

/-- Numbers for every argument but the layer norm's scale and shift: reals, and extended reals for the Gaussians' and the
wavelets' places and widths. -/
structure Reals where
  x : Fin 8192 → ℝ
  aux : Fin 8192 → Fin 64 → ℝ
  W : ℕ → Fin 4 → ℝ
  bias : Fin 4 → ℝ
  fc : Fin 64 → Fin 2048 → ℝ
  sp : Fin 11 → Fin 2048 → ℝ
  sb : Fin 2048 → ℝ
  ss : Fin 2048 → ℝ
  gc : Fin 32 → EReal
  gs : Fin 32 → EReal
  gf : Fin 32 → Fin 2048 → ℝ
  wc : Fin 32 → EReal
  ws : Fin 32 → EReal
  wf : Fin 32 → Fin 2048 → ℝ

/-- A token's router scores. -/
def Reals.logits (R : Reals) (i : Fin 8192) : Fin 4 → ℝ := score R.W R.bias (R.x i) (R.aux i)

/-- The coefficient rows. -/
def Reals.coef (R : Reals) : Fin 144 → Fin 2048 → ℝ := coefRow R.fc R.gf R.wf R.sp R.ss R.sb

/-- A token's weighted basis rows. -/
def Reals.basis (R : Reals) (i : Fin 8192) : Fin 144 → ℝ := basisRow (R.x i) (weight (soft (R.logits i))) R.gc R.gs R.ws R.wc

section Arrays

variable (x0 : FVec Ideal ⟨2, ![8192, 1]⟩ .f32) (x1 : FVec Ideal ⟨2, ![8192, 64]⟩ .f32) (x2 : FVec Ideal ⟨2, ![65, 4]⟩ .f32)
  (x3 : FVec Ideal ⟨1, ![4]⟩ .f32) (x4 : FVec Ideal ⟨2, ![64, 2048]⟩ .f32) (x5 : FVec Ideal ⟨2, ![11, 2048]⟩ .f32)
  (x6 x7 : FVec Ideal ⟨1, ![2048]⟩ .f32) (x8 x9 : FVec Ideal ⟨1, ![32]⟩ .f32) (x10 : FVec Ideal ⟨2, ![32, 2048]⟩ .f32)
  (x11 x12 : FVec Ideal ⟨1, ![32]⟩ .f32) (x13 : FVec Ideal ⟨2, ![32, 2048]⟩ .f32) (x14 x15 : FVec Ideal ⟨1, ![2048]⟩ .f32)

/-- The arrays hold these numbers; no width is zero and no wavelet scale is zero; the layer norm's scale is one and its shift zero. -/
structure Holds (R : Reals) : Prop where
  x : ∀ i, x0 (ix2 i 0) = ((R.x i : ℝ) : EReal)
  aux : ∀ i k, x1 (ix2 i k) = ((R.aux i k : ℝ) : EReal)
  W : ∀ (k : Fin 65) e, x2 (ix2 k e) = ((R.W k.val e : ℝ) : EReal)
  bias : ∀ e, x3 (ix1 e) = ((R.bias e : ℝ) : EReal)
  fc : ∀ k d, x4 (ix2 k d) = ((R.fc k d : ℝ) : EReal)
  sp : ∀ k d, x5 (ix2 k d) = ((R.sp k d : ℝ) : EReal)
  sb : ∀ d, x6 (ix1 d) = ((R.sb d : ℝ) : EReal)
  ss : ∀ d, x7 (ix1 d) = ((R.ss d : ℝ) : EReal)
  gc : ∀ k, x8 (ix1 k) = R.gc k
  gs : ∀ k, x9 (ix1 k) = R.gs k
  gf : ∀ k d, x10 (ix2 k d) = ((R.gf k d : ℝ) : EReal)
  wc : ∀ k, x11 (ix1 k) = R.wc k
  ws : ∀ k, x12 (ix1 k) = R.ws k
  wf : ∀ k d, x13 (ix2 k d) = ((R.wf k d : ℝ) : EReal)
  wide : ∀ k, R.gs k ≠ ⊥
  nonzero : ∀ k, R.wc k ≠ 0
  unit : ∀ d, x14 (ix1 d) = ((1 : ℝ) : EReal)
  flat : ∀ d, x15 (ix1 d) = ((0 : ℝ) : EReal)

/-- The reals the arrays hold. -/
def realsOf : Reals where
  x i := (x0 (ix2 i 0)).toReal
  aux i k := (x1 (ix2 i k)).toReal
  W n e := if h : n < 65 then (x2 (ix2 ⟨n, h⟩ e)).toReal else 0
  bias e := (x3 (ix1 e)).toReal
  fc k d := (x4 (ix2 k d)).toReal
  sp k d := (x5 (ix2 k d)).toReal
  sb d := (x6 (ix1 d)).toReal
  ss d := (x7 (ix1 d)).toReal
  gc k := x8 (ix1 k)
  gs k := x9 (ix1 k)
  gf k d := (x10 (ix2 k d)).toReal
  wc k := x11 (ix1 k)
  ws k := x12 (ix1 k)
  wf k d := (x13 (ix2 k d)).toReal

end Arrays

section Memory

open Cert.KernelIdeal

variable (m : (ℓ : Loc nD τ sig) → Buf (Elt Ideal) ℓ) (c : Dev nD)

/-- The reals the kernel's arguments hold. -/
def realsAt : Reals :=
  realsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

/-- The kernel's arguments hold the reals `R`. -/
abbrev HoldsAt (R : Reals) : Prop :=
  Holds (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) R

/-- Arguments that meet the preconditions hold reals where a real is asked, no zero width, no zero scale, a unit layer-norm scale and no shift. -/
theorem holds_of_pre (h : Cert.Pre_KernelIdeal_trained_inputs (hPre_trained_inputs := pre_facts) m) : HoldsAt m c (realsAt m c) := by
  obtain ⟨h0, h1, h2, h3, h4, h5, h6, h7, hw, h10, hn, h13, hu, hf⟩ := h c
  exact {
    x := fun i => real_of_abs _ _ h0 _
    aux := fun i k => real_of_abs _ _ h1 _
    W := fun k e => by
      rw [show (realsAt m c).W k.val e = (m ((c.tc : Thread nD τ).loc main_arg2) (ix2 k e) : EReal).toReal from dif_pos k.isLt]
      exact real_of_abs _ _ h2 _
    bias := fun e => real_of_abs _ _ h3 _
    fc := fun k d => real_of_abs _ _ h4 _
    sp := fun k d => real_of_abs _ _ h5 _
    sb := fun d => real_of_abs _ _ h6 _
    ss := fun d => real_of_abs _ _ h7 _
    gc := fun k => rfl
    gs := fun k => rfl
    gf := fun k d => real_of_abs _ _ h10 _
    wc := fun k => rfl
    ws := fun k => rfl
    wf := fun k d => real_of_abs _ _ h13 _
    wide := fun k => by
      have h := ne_of_une _ _ _ hw (ix1 k)
      rwa [show Ideal.ofBits .f32 0xFF800000#32 = (⊥ : EReal) by simp [Ideal.ofBits, Ideal.ieee]] at h
    nonzero := fun k => by
      have h := ne_of_une _ _ _ hn (ix1 k)
      rwa [show Ideal.ofBits .f32 0x00000000#32 = (0 : EReal) by simp [Ideal.ofBits, Ideal.ieee]] at h
    unit := fun d => (eq_of_oeq _ _ _ hu _).trans lit_one
    flat := fun d => (eq_of_oeq _ _ _ hf _).trans lit_zero }

end Memory

end Cert.Proof

end
-- ==== Proof.KernelValue.lean ====
module

public import proofs.«01_k».proof.Proof.KernelOut
public import proofs.«01_k».proof.Proof.Inputs

/-! The kernel's three results, entry by entry, over the reals its arguments hold. -/

@[expose] public section

noncomputable section

namespace Cert.Proof.Block

open Idealize.ShloMosaic Idealize.ShloMosaic.TcCoe
open Cert.KernelIdeal Cert.KernelIdeal.Gen
open scoped BigOperators

variable (m : (ℓ : Loc nD τ sig) → Buf (Elt Ideal) ℓ) (c : Dev nD) {R : Reals}

/-- The point and the place of a token, as its number. -/
theorem back (i : Fin 8192) (h : (point i).val * 1024 + (inner i).val < 8192) :
    (⟨(point i).val * 1024 + (inner i).val, h⟩ : Fin 8192) = i := Fin.ext (point_inner i)

/-- A column of 8192 as a row. -/
theorem times_at (y : Vec Ideal S8192x1 .f32) (i : Fin 8192) : shapeCast S1x8192 y shapeCasts_S8192x1_S1x8192 (ix2 0 i) = y (ix2 i 0) := by
  refine Idealize.ShloMosaic.shapeCast_apply y _ _ _ ?_
  rw [Shape.rowMajor_val_two, Shape.rowMajor_val_two]
  show i.val * 1 + 0 = 0 * 8192 + i.val
  omega

/-- A token's time in its block. -/
theorem time_at (i : Fin 8192) : (iblk m c 0 (point i) : Vec Ideal S1x1024 .f32) (ix2 0 (inner i))
    = (m ((c : Thread nD τ).loc main_arg0) : Vec Ideal S8192x1 .f32) (ix2 i 0) := by
  have hb : (point i).val * 1024 + (inner i).val < 8192 := by rw [point_inner]; exact i.isLt
  have e := blk0 m c (point i) (inner i) hb
  rw [← ix2_eq_valueIdx, ← ix2_eq_valueIdx, back i hb, V_main_v0] at e
  rw [e]
  exact times_at _ i

/-- A token's auxiliary features in its block. -/
theorem aux_at (i : Fin 8192) (k : Fin 64) : (iblk m c 1 (point i) : Vec Ideal S1024x64 .f32) (ix2 (inner i) k)
    = (m ((c : Thread nD τ).loc main_arg1) : Vec Ideal S8192x64 .f32) (ix2 i k) := by
  have hb : (point i).val * 1024 + (inner i).val < 8192 := by rw [point_inner]; exact i.isLt
  have e := blk1 m c (point i) (inner i) k hb
  rw [← ix2_eq_valueIdx, ← ix2_eq_valueIdx, back i hb] at e
  exact e

/-- A vector of 32 as a column. -/
theorem column_at (y : Vec Ideal S32 .f32) (k : Fin 32) : shapeCast S32x1 y shapeCasts_S32_S32x1 (ix2 k 0) = y (ix1 k) := by
  pointwise []

/-- A vector of 2048 as a row. -/
theorem row_at (y : Vec Ideal S2048 .f32) (d : Fin 2048) : shapeCast S1x2048 y shapeCasts_S2048_S1x2048 (ix2 0 d) = y (ix1 d) := by
  pointwise []

/-- A vector of four as a row. -/
theorem row4_at (y : Vec Ideal S4 .f32) (e : Fin 4) : shapeCast S1x4 y shapeCasts_S4_S1x4 (ix2 0 e) = y (ix1 e) := by
  pointwise []

/-- The kernel's score of one expert, as a sum. -/
theorem pay16_at (t : Vec Ideal S1x1024 .f32) (wa : Vec Ideal S8x64 .f32) (aux : Vec Ideal S1024x64 .f32) (wt bb : Vec Ideal S8x1 .f32)
    (e : Fin 8) (j : Fin 1024) :
    k0_pay16 t wa aux wt bb (ix2 e j) = (∑ k : Fin 64, wa (ix2 e k) * aux (ix2 j k)) + wt (ix2 e 0) * t (ix2 0 j) + bb (ix2 e 0) := by
  pointwise [k0_pay16, k0_pay15]

variable {m c} (H : HoldsAt m c R)
include H

/-- The kernel's scores of a token are the model's. -/
theorem score_at (i : Fin 8192) (e : Fin 4) :
    k0_pay16 (iblk m c 0 (point i)) (waOf (V m c main_arg2)) (iblk m c 1 (point i)) (wtOf (V m c main_arg2)) (bbOf (V m c main_v1))
      (ix2 ⟨e.val, by omega⟩ (inner i)) = ((R.logits i e : ℝ) : EReal) := by
  rw [pay16_at, wtOf_apply, bbOf_apply, V_main_v1, V_main_arg2, time_at, row4_at, H.x, H.bias]
  have s : ∑ k : Fin 64, waOf (m ((c : Thread nD τ).loc main_arg2)) (ix2 ⟨e.val, by omega⟩ k)
        * (iblk m c 1 (point i) : Vec Ideal S1024x64 .f32) (ix2 (inner i) k)
      = ((∑ k : Fin 64, R.W (1 + k.val) e * R.aux i k : ℝ) : EReal) := by
    rw [coe_sum]
    refine Finset.sum_congr rfl fun k _ => ?_
    rw [waOf_apply, aux_at, H.W, H.aux, ← EReal.coe_mul]
  rw [s, H.W, ← EReal.coe_mul, ← EReal.coe_add, ← EReal.coe_add]
  rfl

/-- The same as the block's logits. -/
theorem logits_at (i : Fin 8192) :
    Logits (iblk m c 0 (point i)) (waOf (V m c main_arg2)) (iblk m c 1 (point i)) (wtOf (V m c main_arg2)) (bbOf (V m c main_v1))
      (inner i) (R.logits i) :=
  ⟨score_at H i 0, score_at H i 1, score_at H i 2, score_at H i 3⟩

/-- The second result: the softmax of the scores. -/
theorem raw_value (i : Fin 8192) (e : Fin 4) : rawAll m c (ix2 i e) = ((soft (R.logits i) e : ℝ) : EReal) := by
  show rawBlock m c (point i) (ValueIdx.ix2 (inner i) e) = _
  rw [← ix2_eq_valueIdx, show rawBlock m c (point i) = _ from raw_eq m c (point i)]
  exact raw_at (logits_at H i) e

/-- The third result: whether an expert is the first or the second. -/
theorem chosen_value (i : Fin 8192) (e : Fin 4) :
    chosen m c (ix2 i e) = BitVec.ofBool (decide (first (soft (R.logits i)) = e ∨ second (soft (R.logits i)) = e)) := by
  show Scalar.cmpi .ne (maskBlock m c (point i) (ValueIdx.ix2 (inner i) e)) 0#32 = _
  rw [← ix2_eq_valueIdx, show maskBlock m c (point i) = _ from mask_eq m c (point i)]
  exact mask_at (logits_at H i) e

/-- The stacked coefficient rows. -/
theorem coef_at (b : Fin 144) (d : Fin 2048) :
    rowsOf (k0_pay2 (V m c main_arg4)) (k0_pay3 (V m c main_arg10)) (k0_pay4 (V m c main_arg13))
      (k0_pay5 (V m c main_arg5) (V m c main_v6) (V m c main_v7)) (ix2 b d) = ((R.coef b d : ℝ) : EReal) := by
  rw [V_main_arg4, V_main_arg10, V_main_arg13, V_main_arg5, V_main_v6, V_main_v7]
  exact rows_at H.fc H.gf H.wf H.sp (fun d => (row_at _ d).trans (H.ss d)) (fun d => (row_at _ d).trans (H.sb d)) b d

/-- The first result: the normalised combination of the rows. -/
theorem out_value (i : Fin 8192) (d : Fin 2048) : outAll m c (ix2 i d) = ((normed R.coef (R.basis i) d : ℝ) : EReal) := by
  show outBlock m c (point i) (ValueIdx.ix2 (inner i) d) = _
  rw [← ix2_eq_valueIdx, show outBlock m c (point i) = _ from out_eq m c (point i)]
  refine out_at (logits_at H i) ((time_at m c i).trans (H.x i)) (fun k => ?_) (fun k => ?_) (fun k => ?_) (fun k => ?_) H.nonzero
    (gg_at _ (coef_at H)) (cc_at _ (coef_at H)) d
  · rw [V_main_v2]; exact (column_at _ k).trans (H.gs k)
  · rw [V_main_v3]; exact (column_at _ k).trans (H.gc k)
  · rw [V_main_v4]; exact (column_at _ k).trans (H.wc k)
  · rw [V_main_v5]; exact (column_at _ k).trans (H.ws k)

end Cert.Proof.Block

end
-- ==== Proof.RefRoute.lean ====
module

public import proofs.«01_k».proof.Proof.Consts
public import proofs.«01_k».proof.Proof.Model
public import proofs.«01_k».proof.Proof.Gen.ReferenceIdeal.Read
public import Idealize.ShloMosaic.Lib.Routing.OpsPair
public import Idealize.ShloMosaic.Lib.Routing.OpsSet
public import Idealize.ShloMosaic.Lib.SortFacts
public import Mathlib.Tactic.Positivity
public import Mathlib.Tactic.FieldSimp

/-! The reference's routing of one token, over the reals. -/

@[expose] public section

noncomputable section

namespace Cert.Proof.Ref

open Idealize.ShloMosaic Cert.Proof
open Cert.ReferenceIdeal Cert.ReferenceIdeal.Gen Cert.ReferenceIdeal.Read
open scoped BigOperators

/-! ## Small facts -/

/-- The literal minus infinity. -/
theorem lit_bot : Ideal.ofBits .f32 0xFF800000#32 = (⊥ : EReal) := by
  simp [Ideal.ofBits, Ideal.ieee]

/-- A finite sum of reals among the extended reals. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- The greater of two reals among the extended reals. -/
theorem coe_max (a b : ℝ) : ((max a b : ℝ) : EReal) = max (a : EReal) (b : EReal) := EReal.coe_strictMono.monotone.map_max

/-- The greatest of four reals, folded from minus infinity. -/
theorem fold_four (y : Fin 4 → EReal) (l : Fin 4 → ℝ) (h : ∀ e, y e = (l e : EReal)) :
    max (Ideal.ofBits .f32 0xFF800000#32) (Finset.fold max (Ideal.ofBits .f32 0xFF800000#32) (fun x => y x) Finset.univ)
      = ((top l : ℝ) : EReal) := by
  rw [lit_bot, show (Finset.univ : Finset (Fin 4)) = {0, 1, 2, 3} from rfl]
  simp only [Finset.fold_insert_idem, Finset.fold_singleton, h]
  unfold top
  rw [coe_max, coe_max, coe_max, max_eq_right bot_le, max_eq_left bot_le, max_assoc]

/-- The greater of two reals, folded from minus infinity. -/
theorem fold_two (y : Fin 2 → EReal) (a b : ℝ) (h0 : y 0 = (a : EReal)) (h1 : y 1 = (b : EReal)) :
    max (Ideal.ofBits .f32 0xFF800000#32) (Finset.fold max (Ideal.ofBits .f32 0xFF800000#32) (fun x => y x) Finset.univ)
      = ((max a b : ℝ) : EReal) := by
  rw [lit_bot, show (Finset.univ : Finset (Fin 2)) = {0, 1} from rfl]
  simp only [Finset.fold_insert_idem, Finset.fold_singleton, h0, h1]
  rw [coe_max, max_eq_right bot_le, max_eq_left bot_le]

/-! ## Sorting by the key alone -/

/-- On positions in increasing order, a stable sort by the key alone is the sort by the key and then the position. -/
theorem stableSort_before {r : Fin 4 → ℝ} (l : List (Fin 4)) (hl : l.Pairwise (· < ·)) :
    stableSort (fun k k' => decide (r k' < r k)) l = stableSort (before r) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold before
    rw [decide_eq_false (not_lt.2 hab.le), Bool.and_false, Bool.or_false]

/-- The stable sort by the key alone starts with the two selected positions. -/
theorem sorted_key (r : Fin 4 → ℝ) (hr : ∀ e, -1 < r e) (i : Fin 2) :
    sortedFrom (fun k k' : Fin 4 => decide (r k' < r k)) (i.castLE (by omega)) = picks r i := by
  rw [← sorted_picks r hr i]
  unfold sortedFrom sortPositions
  rw [List.get_of_eq (stableSort_before (r := r) (List.finRange 4) (List.pairwise_lt_finRange 4))]
  rfl

/-- The positions the two greatest come from. -/
theorem sorted_at (y : S8192x4.Idx → Elt Ideal .f32) (r : Fin 4 → ℝ) (hr : ∀ e, -1 < r e) (i : Fin 8192)
    (hy : ∀ e, y (ix2 i e) = (r e : EReal)) (e : Fin 2) :
    sortedFrom (fun k k' : Fin 4 => FloatOps.cmpfTotal (F := Ideal) (φ := .f32) .gt (y (ix2 i k)) (y (ix2 i k')) == 1#1)
      (e.castLE (by omega)) = picks r e := by
  rw [← sorted_key r hr e]
  congr 1
  funext k k'
  rw [hy, hy]
  show (BitVec.ofBool (decide ((r k' : EReal) < (r k : EReal))) == 1#1) = _
  by_cases h : r k' < r k
  · rw [decide_eq_true h, decide_eq_true (EReal.coe_lt_coe_iff.2 h)]; rfl
  · rw [decide_eq_false h, decide_eq_false (fun h' => h (EReal.coe_lt_coe_iff.1 h'))]; rfl

/-- The two greatest of a row, and where they stand. -/
theorem topK_at (y : S8192x4.Idx → Ideal .f32) (r : Fin 4 → ℝ) (hr : ∀ e, -1 < r e) (i : Fin 8192)
    (hy : ∀ e, y (ix2 i e) = (r e : EReal)) (e : Fin 2) :
    (Host.topK S8192x2 1 (FloatOps.cmpfTotal .gt) y sliceFits_S8192x4_S8192x2).1 (ix2 i e) = ((r (picks r e) : ℝ) : EReal)
      ∧ (Host.topK S8192x2 1 (FloatOps.cmpfTotal .gt) y sliceFits_S8192x4_S8192x2).2 (ix2 i e) = BitVec.ofNat 32 (picks r e).val := by
  have ea : ∀ k : Fin 4, Shape.Idx.along (s := S8192x4) (ix2 i (e.castLE (by omega))) 1 k = ix2 i k := fun k => by
    funext a; fin_cases a <;> rfl
  have es := sorted_at y r hr i hy e
  have pos : ∀ J : S8192x4.Idx, J = ix2 i (e.castLE (by omega)) →
      sortedFrom (n := 4) (fun k k' : Fin 4 => FloatOps.cmpfTotal (F := Ideal) (φ := .f32) .gt (y (J.along 1 k)) (y (J.along 1 k')) == 1#1) (J 1)
        = picks r e := by
    intro J hJ
    subst hJ
    have eb : (fun k k' : Fin 4 => FloatOps.cmpfTotal (F := Ideal) (φ := .f32) .gt (y (Shape.Idx.along (s := S8192x4) (ix2 i (e.castLE (by omega))) 1 k))
        (y (Shape.Idx.along (s := S8192x4) (ix2 i (e.castLE (by omega))) 1 k')) == 1#1)
        = fun k k' : Fin 4 => FloatOps.cmpfTotal (F := Ideal) (φ := .f32) .gt (y (ix2 i k)) (y (ix2 i k')) == 1#1 := by
      funext k k'; rw [ea, ea]
    exact (congrArg (fun B => sortedFrom B (e.castLE (by omega : 2 ≤ 4))) eb).trans es
  have main : ∀ J : S8192x4.Idx, J = ix2 i (e.castLE (by omega)) → ∀ p : Fin 4, p = picks r e →
      y (J.along 1 p) = ((r (picks r e) : ℝ) : EReal) ∧ BitVec.ofNat 32 ((J.along 1 p) 1).val = BitVec.ofNat 32 (picks r e).val := by
    intro J hJ p hp
    subst hJ hp
    rw [ea, hy]
    exact ⟨rfl, rfl⟩
  have hJ : (fun a => ⟨0 + ((ix2 i e : S8192x2.Idx) (a.cast sliceFits_S8192x4_S8192x2.1.symm)).val,
      Nat.lt_of_lt_of_le (Nat.add_lt_add_left ((ix2 i e : S8192x2.Idx) _).isLt _) (sliceFits_S8192x4_S8192x2.2 a)⟩ : S8192x4.Idx)
      = ix2 i (e.castLE (by omega)) := by
    funext a; fin_cases a <;> apply Fin.ext <;> exact Nat.zero_add _
  exact main _ hJ _ (pos _ hJ)

/-! ## The stages of the routing -/

variable (x0 : (⟨S8192x1, .f32⟩ : BufTy).Contents (Elt Ideal)) (x1 : (⟨S8192x64, .f32⟩ : BufTy).Contents (Elt Ideal))
  (x2 : (⟨S65x4, .f32⟩ : BufTy).Contents (Elt Ideal)) (x3 : (⟨S4, .f32⟩ : BufTy).Contents (Elt Ideal))

/-- The router's scores as sums. -/
theorem v4_at (i : Fin 8192) (e : Fin 4) :
    val_main_v4 (F := Ideal) x0 x1 x2 x3 (ix2 i e) =
      x0 (ix2 i 0) * x2 (ix2 0 e) + ∑ x : Fin 64, x1 (ix2 i x) * x2 (ix2 ⟨1 + x.val, by omega⟩ e) + x3 (ix1 e) := by
  pointwise [val_main_v4, val_main_v1, val_main_v0, val_main_v3, val_main_v2]
  rw [Fin.sum_univ_one]

section Token
variable {x0 x1 x2 x3} {i : Fin 8192} {l : Fin 4 → ℝ}

/-- The softmax of the scores. -/
theorem v15_at (h : ∀ e, val_main_v4 (F := Ideal) x0 x1 x2 x3 (ix2 i e) = (l e : EReal)) (e : Fin 4) :
    val_main_v15 (F := Ideal) x0 x1 x2 x3 (ix2 i e) = ((soft l e : ℝ) : EReal) := by
  unfold val_main_v15 val_main_v14 val_main_v13 val_main_v12 val_main_v11 val_main_v10 val_main_v9 val_main_v8 val_main_v7 val_main_v6
    val_main_v5 val_main_cst val_main_cst_0 val_main_cst_1
  generalize val_main_v4 (F := Ideal) x0 x1 x2 x3 = y at h
  pointwise
  rw [fold_four (fun x => y (ix2 i x)) l h]
  simp only [h, ← EReal.coe_sub, Ideal.exp_coe, Fin.sum_univ_four, ← EReal.coe_add]
  rw [Ideal.div_coe (by positivity), ← EReal.coe_mul, mul_one_div]
  rfl

/-- The softmax's entries exceed minus one. -/
theorem soft_gt (l : Fin 4 → ℝ) (e : Fin 4) : -1 < soft l e := by linarith [soft_pos l e]

/-- The two greatest shares. -/
theorem values_at (h : ∀ e, val_main_v4 (F := Ideal) x0 x1 x2 x3 (ix2 i e) = (l e : EReal)) (e : Fin 2) :
    val_main_values (F := Ideal) x0 x1 x2 x3 (ix2 i e) = ((soft l (picks (soft l) e) : ℝ) : EReal) :=
  (topK_at (val_main_v15 (F := Ideal) x0 x1 x2 x3) (soft l) (soft_gt l) i (v15_at h) e).1

/-- The experts they belong to. -/
theorem indices_at (h : ∀ e, val_main_v4 (F := Ideal) x0 x1 x2 x3 (ix2 i e) = (l e : EReal)) (e : Fin 2) :
    val_main_indices (F := Ideal) x0 x1 x2 x3 (ix2 i e) = BitVec.ofNat 32 (picks (soft l) e).val :=
  (topK_at (val_main_v15 (F := Ideal) x0 x1 x2 x3) (soft l) (soft_gt l) i (v15_at h) e).2

/-- The two experts' weights. -/
theorem v26_at (h : ∀ e, val_main_v4 (F := Ideal) x0 x1 x2 x3 (ix2 i e) = (l e : EReal)) (e : Fin 2) :
    val_main_v26 (F := Ideal) x0 x1 x2 x3 (ix2 i e) = ((weight (soft l) (picks (soft l) e) : ℝ) : EReal) := by
  have hv := values_at h
  unfold val_main_v26 val_main_v25 val_main_v24 val_main_v23 val_main_v22 val_main_v21 val_main_v20 val_main_v19 val_main_v18 val_main_v17
    val_main_v16 val_main_cst_2 val_main_cst_3 val_main_cst_4
  generalize val_main_values (F := Ideal) x0 x1 x2 x3 = y at hv
  have h0 : y (ix2 i 0) = ((top (soft l) : ℝ) : EReal) := (hv 0).trans (congrArg _ (first_eq _))
  have h1 : y (ix2 i 1) = ((top (rest (soft l)) : ℝ) : EReal) := (hv 1).trans (congrArg _ (top_rest _ (soft_gt l)).symm)
  have hle : top (rest (soft l)) ≤ top (soft l) := by rw [top_rest _ (soft_gt l)]; exact le_top _ _
  have hne := second_ne _ (soft_gt l)
  pointwise
  rw [fold_two (fun x => y (ix2 i x)) _ _ h0 h1, max_eq_left hle]
  simp only [Fin.sum_univ_two, h0, h1, ← EReal.coe_sub, Ideal.exp_coe, ← EReal.coe_add, sub_self, Real.exp_zero]
  rw [Ideal.div_coe (by positivity)]
  have hc : e = 0 ∨ e = 1 := by fin_cases e <;> simp
  rcases hc with rfl | rfl
  · rw [h0, ← EReal.coe_sub, Ideal.exp_coe, ← EReal.coe_mul, sub_self, Real.exp_zero, one_mul]
    show _ = ((weight (soft l) (first (soft l)) : ℝ) : EReal)
    unfold weight
    rw [if_pos rfl]
    rfl
  · rw [h1, ← EReal.coe_sub, Ideal.exp_coe, ← EReal.coe_mul, mul_one_div]
    show _ = ((weight (soft l) (second (soft l)) : ℝ) : EReal)
    unfold weight
    rw [if_neg hne.symm, if_pos rfl]
    rfl

/-- A nonnegative index word is not wrapped. -/
theorem wrap_ofNat (n : ℕ) (h : n < 2 ^ 31) (a : BitVec 32) :
    Scalar.select (IntOp.cmpi .slt (BitVec.ofNat 32 n) 0#32) a (BitVec.ofNat 32 n) = BitVec.ofNat 32 n := by
  rw [WordCmp.cmpi_slt_ofNat (by omega) (by omega), decide_eq_false (by omega)]
  rfl

/-- The scatter's index words: the token's number and the selected expert's. -/
theorem v43_at (h : ∀ e, val_main_v4 (F := Ideal) x0 x1 x2 x3 (ix2 i e) = (l e : EReal)) (e k : Fin 2) :
    val_main_v43 (F := Ideal) x0 x1 x2 x3 (ix3 i e k) = BitVec.ofNat 32 (if k = 0 then i.val else (picks (soft l) e).val) := by
  pointwise [val_main_v43, val_main_v42, val_main_v41, val_main_v40, val_main_v39, val_main_v38, val_main_v37, val_main_v36, val_main_v35,
    val_main_v34, val_main_v33, val_main_v32, val_main_v31, val_main_v30, val_main_v28, val_main_v27, val_main_c_5, val_main_c_6, val_main_c_7,
    val_main_c_8]
  rw [indices_at h, wrap_ofNat _ (by omega), wrap_ofNat _ (by omega)]
  by_cases hk : k = 0
  · subst hk; rfl
  · have : ¬ k.val < 1 := fun h' => hk (Fin.ext (by simpa using h'))
    rw [dif_neg this, if_neg hk]

end Token

/-- The second scatter's index words are the first's. -/
theorem v60_eq : val_main_v60 (F := Ideal) x0 x1 x2 x3 = val_main_v43 (F := Ideal) x0 x1 x2 x3 := rfl

variable {x0 x1 x2 x3} {l : Fin 8192 → Fin 4 → ℝ}

/-- An update of token `a` lands at token `i` and expert `e` exactly when `a` is `i` and the selected expert is `e`. -/
theorem lands_at (h : ∀ i e, val_main_v4 (F := Ideal) x0 x1 x2 x3 (ix2 i e) = (l i e : EReal)) (a i : Fin 8192) (b : Fin 2) (e : Fin 4) :
    scatter_S8192x4_S8192x2x2_S8192x2_n_01_01_2.resultIdx? (ix2 a b) (val_main_v43 (F := Ideal) x0 x1 x2 x3) = some (ix2 i e)
      ↔ a = i ∧ picks (soft (l a)) b = e := by
  have hp := (picks (soft (l a)) b).isLt
  refine (Routing.scatter_lands2 scatter_S8192x4_S8192x2x2_S8192x2_n_01_01_2 rfl rfl rfl (val_main_v43 (F := Ideal) x0 x1 x2 x3) a b i e).trans ?_
  have e0 : val_main_v43 (F := Ideal) x0 x1 x2 x3 (ValueIdx.ix3 a b 0) = BitVec.ofNat 32 a.val := v43_at (h a) b 0
  have e1 : val_main_v43 (F := Ideal) x0 x1 x2 x3 (ValueIdx.ix3 a b 1) = BitVec.ofNat 32 (picks (soft (l a)) b).val := v43_at (h a) b 1
  rw [e0, e1, WordCmp.toInt_ofNat_of_lt (by omega), WordCmp.toInt_ofNat_of_lt (by omega)]
  exact ⟨fun ⟨p, q⟩ => ⟨Fin.ext (by exact_mod_cast p), Fin.ext (by exact_mod_cast q)⟩, fun ⟨p, q⟩ => ⟨by rw [p], by rw [q]⟩⟩

/-- An index of two axes is its two coordinates. -/
theorem exists_ix2 (k : S8192x2.Idx) : ∃ (a : Fin 8192) (b : Fin 2), k = ix2 a b :=
  ⟨k 0, k 1, by funext c; fin_cases c <;> rfl⟩

/-- A selected expert is the first or the second. -/
theorem picks_cases (r : Fin 4 → ℝ) (b : Fin 2) (e : Fin 4) (h : picks r b = e) : first r = e ∨ second r = e := by
  fin_cases b
  · exact Or.inl h
  · exact Or.inr h

/-- Result three: whether an expert is selected. -/
theorem v45_at (h : ∀ i e, val_main_v4 (F := Ideal) x0 x1 x2 x3 (ix2 i e) = (l i e : EReal)) (i : Fin 8192) (e : Fin 4) :
    val_main_v45 (F := Ideal) x0 x1 x2 x3 (ix2 i e) = BitVec.ofBool (decide (first (soft (l i)) = e ∨ second (soft (l i)) = e)) := by
  have hit : ∀ b, picks (soft (l i)) b = e → val_main_v45 (F := Ideal) x0 x1 x2 x3 (ix2 i e) = 1#1 := fun b hb =>
    Routing.scatter_set_hit _ _ _ _ _ _ (fun _ _ => rfl) (ix2 i b) ((lands_at h i i b e).2 ⟨rfl, hb⟩)
  by_cases h0 : first (soft (l i)) = e
  · rw [hit 0 h0, decide_eq_true (Or.inl h0)]; rfl
  by_cases h1 : second (soft (l i)) = e
  · rw [hit 1 h1, decide_eq_true (Or.inr h1)]; rfl
  rw [decide_eq_false (by tauto)]
  refine Routing.scatter_set_miss _ _ _ _ _ fun k hk => ?_
  obtain ⟨a, b, rfl⟩ := exists_ix2 k
  obtain ⟨rfl, hb⟩ := (lands_at h a i b e).1 hk
  exact (picks_cases _ b e hb).elim h0 h1

/-- The weights, spread over the experts. -/
theorem v61_at (h : ∀ i e, val_main_v4 (F := Ideal) x0 x1 x2 x3 (ix2 i e) = (l i e : EReal)) (i : Fin 8192) (e : Fin 4) :
    val_main_v61 (F := Ideal) x0 x1 x2 x3 (ix2 i e) = ((weight (soft (l i)) e : ℝ) : EReal) := by
  have hit : ∀ b, picks (soft (l i)) b = e → val_main_v61 (F := Ideal) x0 x1 x2 x3 (ix2 i e) = ((weight (soft (l i)) e : ℝ) : EReal) := fun b hb => by
    refine Routing.scatter_set_hit _ _ _ _ _ _ (fun k hk => ?_) (ix2 i b) ((lands_at h i i b e).2 ⟨rfl, hb⟩)
    obtain ⟨a, b', rfl⟩ := exists_ix2 k
    obtain ⟨rfl, hb'⟩ := (lands_at h a i b' e).1 hk
    rw [v26_at (h a) b', hb']
  by_cases h0 : first (soft (l i)) = e
  · exact hit 0 h0
  by_cases h1 : second (soft (l i)) = e
  · exact hit 1 h1
  unfold weight
  rw [if_neg h0, if_neg h1]
  refine (Routing.scatter_set_miss _ _ _ _ _ fun k hk => ?_).trans ?_
  · obtain ⟨a, b, rfl⟩ := exists_ix2 k
    obtain ⟨rfl, hb⟩ := (lands_at h a i b e).1 hk
    exact (picks_cases _ b e hb).elim h0 h1
  · pointwise [val_main_v46, val_main_cst_10]
    rfl

end Cert.Proof.Ref

end
-- ==== Proof.RefExperts.lean ====
module

public import proofs.«01_k».proof.Proof.RefRoute
public import proofs.«01_k».proof.Proof.KernelBasis

/-! The reference's four experts at one token, over the reals. -/

@[expose] public section

noncomputable section

namespace Cert.Proof.Ref

open Idealize.ShloMosaic Cert.Proof
open Cert.Proof.Block (lit_half_turn lit_neg_half lit_neg_three sitofp_nat)
open Cert.ReferenceIdeal Cert.ReferenceIdeal.Gen Cert.ReferenceIdeal.Read
open scoped BigOperators

/-- The literal one quarter. -/
theorem lit_quarter : Ideal.ofBits .f32 0x3E800000#32 = ((1 / 4 : ℝ) : EReal) := by
  simp [Ideal.ofBits, Ideal.ieee, -EReal.coe_mul, -EReal.coe_neg]
  norm_num

/-- A bit as a number. -/
theorem uitofp_bit (p : Prop) [Decidable p] :
    (FloatOps.uitofp .f32 (BitVec.ofBool (decide p)) : Ideal .f32) = (((if p then 1 else 0 : ℝ)) : EReal) := by
  show (((BitVec.ofBool (decide p)).toNat : ℝ) : EReal) = _
  by_cases h : p <;> simp [h]

/-- A quotient of reals among the extended reals. -/
theorem coe_div (a b : ℝ) (h : b ≠ 0) : Ideal.div (a : EReal) (b : EReal) = ((a / b : ℝ) : EReal) := by
  rw [Ideal.div_coe h, ← EReal.coe_mul, mul_one_div]

variable (x0 : (⟨S8192x1, .f32⟩ : BufTy).Contents (Elt Ideal)) (x4 : (⟨S64x2048, .f32⟩ : BufTy).Contents (Elt Ideal))
  (x5 : (⟨S11x2048, .f32⟩ : BufTy).Contents (Elt Ideal)) (x6 x7 : (⟨S2048, .f32⟩ : BufTy).Contents (Elt Ideal))
  (x8 x9 : (⟨S32, .f32⟩ : BufTy).Contents (Elt Ideal)) (x10 : (⟨S32x2048, .f32⟩ : BufTy).Contents (Elt Ideal))
  (x11 x12 : (⟨S32, .f32⟩ : BufTy).Contents (Elt Ideal)) (x13 : (⟨S32x2048, .f32⟩ : BufTy).Contents (Elt Ideal))
  (i : Fin 8192) (x : ℝ)

/-! ## The Fourier expert -/

variable {x0 x4 i x} in
/-- The Fourier expert: 64 rows combined. -/
theorem v76_at (hx : x0 (ix2 i 0) = (x : EReal)) {d : Fin 2048} {fc : Fin 64 → ℝ} (hf : ∀ k, x4 (ix2 k d) = (fc k : EReal)) :
    val_main_v76 (F := Ideal) x0 x4 (ix2 i d) = ((∑ k : Fin 64, fourierRow x k.val * fc k : ℝ) : EReal) := by
  have e : val_main_v76 (F := Ideal) x0 x4 (ix2 i d)
      = (∑ k : Fin 32, Ideal.sin (x0 (ix2 i 0) * (1 + (FloatOps.sitofp .f32 (BitVec.ofNat 32 k.val) : Ideal .f32)) * Ideal.ofBits .f32 0x40490FDB#32)
            * x4 (ix2 ⟨k.val, by omega⟩ d))
        + ∑ k : Fin 32, Ideal.cos (x0 (ix2 i 0) * (1 + (FloatOps.sitofp .f32 (BitVec.ofNat 32 k.val) : Ideal .f32)) * Ideal.ofBits .f32 0x40490FDB#32)
            * x4 (ix2 ⟨32 + k.val, by omega⟩ d) := by
    pointwise [val_main_v76, val_main_v75, val_main_v74, val_main_v72, val_main_v71, val_main_cst_16, val_main_v70, val_main_v69,
      val_main_v67, val_main_v65, val_main_v63, val_main_v64, val_main_cst_15, val_main_v68, val_main_v66, val_main_v62, val_main_v73]
  have ang : ∀ k : Fin 32, x0 (ix2 i 0) * (1 + (FloatOps.sitofp .f32 (BitVec.ofNat 32 k.val) : Ideal .f32)) * Ideal.ofBits .f32 0x40490FDB#32
      = ((x * halfTurn * (k.val + 1) : ℝ) : EReal) := fun k => by
    rw [hx, sitofp_nat _ (by omega), lit_half_turn, ← EReal.coe_one, ← EReal.coe_add, ← EReal.coe_mul, ← EReal.coe_mul]
    congr 1; ring
  rw [e, Fin.sum_univ_add (a := 32) (b := 32), EReal.coe_add, coe_sum, coe_sum]
  congr 1
  · refine Finset.sum_congr rfl fun k _ => ?_
    rw [ang, Ideal.sin_coe, hf, ← EReal.coe_mul]
    unfold fourierRow
    rw [if_pos (show (Fin.castAdd 32 k).val < 32 from k.isLt)]
    rfl
  · refine Finset.sum_congr rfl fun k _ => ?_
    rw [ang, Ideal.cos_coe, hf, ← EReal.coe_mul]
    unfold fourierRow
    rw [if_neg (show ¬ (Fin.natAdd 32 k).val < 32 by simp)]
    congr 1
    rw [show x * halfTurn * (((Fin.natAdd 32 k).val : ℝ) - 31) = x * halfTurn * (k.val + 1) by
      rw [Fin.val_natAdd]; push_cast; ring]
    rfl

/-! ## The spline expert -/

/-- The knots. -/
theorem v83_at (j : Fin 15) : val_main_v83 (F := Ideal) (ix1 j) = ((knot j.val : ℝ) : EReal) := by
  have e : val_main_v83 (F := Ideal) (ix1 j)
      = (Ideal.ofBits .f32 0xC0400000#32 + (FloatOps.sitofp .f32 (BitVec.ofNat 32 j.val) : Ideal .f32)) * Ideal.ofBits .f32 0x3E800000#32 - 1 := by
    pointwise [val_main_v83, val_main_v82, val_main_cst_19, val_main_v81, val_main_v80, val_main_cst_18, val_main_v79, val_main_v77,
      val_main_v78, val_main_cst_17]
  rw [e, lit_neg_three, lit_quarter, sitofp_nat _ (by omega), ← EReal.coe_one, ← EReal.coe_add, ← EReal.coe_mul, ← EReal.coe_sub]
  rfl

variable {x0 i x} (hx : x0 (ix2 i 0) = (x : EReal))
include hx

/-- The bases of degree zero. -/
theorem v96_at (j : Fin 14) : val_main_v96 (F := Ideal) x0 (ix2 i j) = ((base0 x j.val : ℝ) : EReal) := by
  have e : val_main_v96 (F := Ideal) x0 (ix2 i j)
      = (FloatOps.uitofp .f32 (IntOp.andi (BitVec.ofBool (decide (val_main_v83 (F := Ideal) (ix1 ⟨j.val, by omega⟩) ≤ x0 (ix2 i 0))))
        (BitVec.ofBool (decide (x0 (ix2 i 0) < val_main_v83 (F := Ideal) (ix1 ⟨1 + j.val, by omega⟩))))) : Ideal .f32) := by
    unfold val_main_v96 val_main_v95 val_main_v94 val_main_v93 val_main_v91 val_main_v90 val_main_v92 val_main_v89 val_main_v88
      val_main_v86 val_main_v85 val_main_v87
    generalize val_main_v83 (F := Ideal) = y
    pointwise [val_main_v84, val_main_v62]
  rw [e, v83_at, v83_at, hx, WordCmp.andi_ofBool, ← Bool.decide_and, uitofp_bit]
  unfold base0
  congr 1
  refine if_congr (and_congr EReal.coe_le_coe_iff ?_) rfl rfl
  rw [EReal.coe_lt_coe_iff]
  push_cast
  rw [add_comm]

omit hx in
/-- One step of the recursion among the extended reals. -/
theorem step_at (a b c d p q : ℝ) (h : b - a ≠ 0) (h' : d - c ≠ 0) :
    Ideal.div ((x : EReal) - a) ((b : EReal) - a) * p + Ideal.div ((d : EReal) - x) ((d : EReal) - c) * q
      = (((x - a) / (b - a) * p + (d - x) / (d - c) * q : ℝ) : EReal) := by
  rw [← EReal.coe_sub, ← EReal.coe_sub, ← EReal.coe_sub, ← EReal.coe_sub, coe_div _ _ h, coe_div _ _ h', ← EReal.coe_mul, ← EReal.coe_mul,
    ← EReal.coe_add]

omit hx in
/-- Knots at different numbers differ. -/
theorem knot_sub_ne (a b : ℝ) (h : a ≠ b) : knot b - knot a ≠ 0 := by
  unfold knot
  intro h'
  exact h (by linarith)

/-- The bases of degree one. -/
theorem v123_at (j : Fin 13) : val_main_v123 (F := Ideal) x0 (ix2 i j) = ((base1 x j.val : ℝ) : EReal) := by
  have e : val_main_v123 (F := Ideal) x0 (ix2 i j)
      = Ideal.div (x0 (ix2 i 0) - val_main_v83 (F := Ideal) (ix1 ⟨j.val, by omega⟩))
          (val_main_v83 (F := Ideal) (ix1 ⟨1 + j.val, by omega⟩) - val_main_v83 (F := Ideal) (ix1 ⟨j.val, by omega⟩))
          * val_main_v96 (F := Ideal) x0 (ix2 i ⟨j.val, by omega⟩)
        + Ideal.div (val_main_v83 (F := Ideal) (ix1 ⟨2 + j.val, by omega⟩) - x0 (ix2 i 0))
          (val_main_v83 (F := Ideal) (ix1 ⟨2 + j.val, by omega⟩) - val_main_v83 (F := Ideal) (ix1 ⟨1 + j.val, by omega⟩))
          * val_main_v96 (F := Ideal) x0 (ix2 i ⟨1 + j.val, by omega⟩) := by
    unfold val_main_v123 val_main_v122 val_main_v121 val_main_v120 val_main_v119 val_main_v118 val_main_v117 val_main_v116 val_main_v115
      val_main_v114 val_main_v113 val_main_v112 val_main_v111 val_main_v110 val_main_v109 val_main_v108 val_main_v107 val_main_v106
      val_main_v105 val_main_v104 val_main_v103 val_main_v102 val_main_v101 val_main_v100 val_main_v98 val_main_v97 val_main_v99
    generalize val_main_v83 (F := Ideal) = y
    generalize val_main_v96 (F := Ideal) x0 = z
    pointwise [val_main_v84, val_main_v62]
  rw [e, v83_at, v83_at, v83_at, v96_at hx, v96_at hx, hx]
  dsimp only
  rw [step_at _ _ _ _ _ _ (knot_sub_ne _ _ (by push_cast; linarith)) (knot_sub_ne _ _ (by push_cast; linarith))]
  unfold base1
  push_cast
  rw [add_comm 1 (j.val : ℝ), add_comm 2 (j.val : ℝ)]

/-- The bases of degree two. -/
theorem v150_at (j : Fin 12) : val_main_v150 (F := Ideal) x0 (ix2 i j) = ((base2 x j.val : ℝ) : EReal) := by
  have e : val_main_v150 (F := Ideal) x0 (ix2 i j)
      = Ideal.div (x0 (ix2 i 0) - val_main_v83 (F := Ideal) (ix1 ⟨j.val, by omega⟩))
          (val_main_v83 (F := Ideal) (ix1 ⟨2 + j.val, by omega⟩) - val_main_v83 (F := Ideal) (ix1 ⟨j.val, by omega⟩))
          * val_main_v123 (F := Ideal) x0 (ix2 i ⟨j.val, by omega⟩)
        + Ideal.div (val_main_v83 (F := Ideal) (ix1 ⟨3 + j.val, by omega⟩) - x0 (ix2 i 0))
          (val_main_v83 (F := Ideal) (ix1 ⟨3 + j.val, by omega⟩) - val_main_v83 (F := Ideal) (ix1 ⟨1 + j.val, by omega⟩))
          * val_main_v123 (F := Ideal) x0 (ix2 i ⟨1 + j.val, by omega⟩) := by
    unfold val_main_v150 val_main_v149 val_main_v148 val_main_v147 val_main_v146 val_main_v145 val_main_v144 val_main_v143 val_main_v142
      val_main_v141 val_main_v140 val_main_v139 val_main_v138 val_main_v137 val_main_v136 val_main_v135 val_main_v134 val_main_v133
      val_main_v132 val_main_v131 val_main_v130 val_main_v129 val_main_v128 val_main_v127 val_main_v125 val_main_v124 val_main_v126
    generalize val_main_v83 (F := Ideal) = y
    generalize val_main_v123 (F := Ideal) x0 = z
    pointwise [val_main_v84, val_main_v62]
  rw [e, v83_at, v83_at, v83_at, v83_at, v123_at hx, v123_at hx, hx]
  dsimp only
  rw [step_at _ _ _ _ _ _ (knot_sub_ne _ _ (by push_cast; linarith)) (knot_sub_ne _ _ (by push_cast; linarith))]
  unfold base2
  push_cast
  rw [add_comm 1 (j.val : ℝ), add_comm 2 (j.val : ℝ), add_comm 3 (j.val : ℝ)]

/-- The bases of degree three. -/
theorem v177_at (j : Fin 11) : val_main_v177 (F := Ideal) x0 (ix2 i j) = ((cubic (4 * x + 7 - j.val) : ℝ) : EReal) := by
  have e : val_main_v177 (F := Ideal) x0 (ix2 i j)
      = Ideal.div (x0 (ix2 i 0) - val_main_v83 (F := Ideal) (ix1 ⟨j.val, by omega⟩))
          (val_main_v83 (F := Ideal) (ix1 ⟨3 + j.val, by omega⟩) - val_main_v83 (F := Ideal) (ix1 ⟨j.val, by omega⟩))
          * val_main_v150 (F := Ideal) x0 (ix2 i ⟨j.val, by omega⟩)
        + Ideal.div (val_main_v83 (F := Ideal) (ix1 ⟨4 + j.val, by omega⟩) - x0 (ix2 i 0))
          (val_main_v83 (F := Ideal) (ix1 ⟨4 + j.val, by omega⟩) - val_main_v83 (F := Ideal) (ix1 ⟨1 + j.val, by omega⟩))
          * val_main_v150 (F := Ideal) x0 (ix2 i ⟨1 + j.val, by omega⟩) := by
    unfold val_main_v177 val_main_v176 val_main_v175 val_main_v174 val_main_v173 val_main_v172 val_main_v171 val_main_v170 val_main_v169
      val_main_v168 val_main_v167 val_main_v166 val_main_v165 val_main_v164 val_main_v163 val_main_v162 val_main_v161 val_main_v160
      val_main_v159 val_main_v158 val_main_v157 val_main_v156 val_main_v155 val_main_v154 val_main_v152 val_main_v151 val_main_v153
    generalize val_main_v83 (F := Ideal) = y
    generalize val_main_v150 (F := Ideal) x0 = z
    pointwise [val_main_v84, val_main_v62]
  rw [← base3_eq, e, v83_at, v83_at, v83_at, v83_at, v150_at hx, v150_at hx, hx]
  dsimp only
  rw [step_at _ _ _ _ _ _ (knot_sub_ne _ _ (by push_cast; linarith)) (knot_sub_ne _ _ (by push_cast; linarith))]
  unfold base3
  push_cast
  rw [add_comm 1 (j.val : ℝ), add_comm 3 (j.val : ℝ), add_comm 4 (j.val : ℝ)]

variable {x5 x6 x7} {d : Fin 2048}

/-- The spline expert: the base function and the eleven cubics, each with its scale. -/
theorem v188_at {sp : Fin 11 → ℝ} {sb ss : ℝ} (hp : ∀ k, x5 (ix2 k d) = (sp k : EReal)) (hb : x6 (ix1 d) = (sb : EReal))
    (hs : x7 (ix1 d) = (ss : EReal)) :
    val_main_v188 (F := Ideal) x0 x5 x6 x7 (ix2 i d)
      = ((sb * swish x + ss * ∑ k : Fin 11, cubic (4 * x + 7 - k.val) * sp k : ℝ) : EReal) := by
  have e : val_main_v188 (F := Ideal) x0 x5 x6 x7 (ix2 i d)
      = x6 (ix1 d) * (x0 (ix2 i 0) * Ideal.div 1 (1 + Ideal.exp (-x0 (ix2 i 0)))) + x7 (ix1 d) * val_main_v178 (F := Ideal) x0 x5 (ix2 i d) := by
    unfold val_main_v188 val_main_v187 val_main_v186 val_main_v185
    generalize val_main_v178 (F := Ideal) x0 x5 = y
    pointwise [val_main_v184, val_main_v183, val_main_v180, val_main_v179, val_main_call0_v5, val_main_call0_v3, val_main_call0_v1,
      val_main_call0_v0, val_main_v62, val_main_call0_v2, val_main_call0_cst, val_main_call0_v4, val_main_call0_cst_0, val_main_v182,
      val_main_v181]
  have e' : val_main_v178 (F := Ideal) x0 x5 (ix2 i d) = ∑ k : Fin 11, val_main_v177 (F := Ideal) x0 (ix2 i k) * x5 (ix2 k d) := by
    unfold val_main_v178
    generalize val_main_v177 (F := Ideal) x0 = y
    pointwise []
  have e'' : ∑ k : Fin 11, val_main_v177 (F := Ideal) x0 (ix2 i k) * x5 (ix2 k d)
      = ((∑ k : Fin 11, cubic (4 * x + 7 - k.val) * sp k : ℝ) : EReal) := by
    rw [coe_sum]
    exact Finset.sum_congr rfl fun k _ => by rw [v177_at hx, hp, ← EReal.coe_mul]
  rw [e, e', e'', hx, hb, hs, ← EReal.coe_neg, Ideal.exp_coe, ← EReal.coe_one, ← EReal.coe_add, coe_div _ _ (by positivity), ← EReal.coe_mul,
    ← EReal.coe_mul, ← EReal.coe_mul, ← EReal.coe_add]
  rfl

/-! ## The Gaussian and the wavelet experts -/

variable {x8 x9 x10 x11 x12 x13}

/-- The Gaussian expert: 32 rows combined. -/
theorem v202_at {gc gs : Fin 32 → EReal} {gf : Fin 32 → ℝ} (hc : ∀ k, x8 (ix1 k) = gc k) (hs : ∀ k, x9 (ix1 k) = gs k)
    (h0 : ∀ k, gs k ≠ ⊥) (hf : ∀ k, x10 (ix2 k d) = (gf k : EReal)) :
    val_main_v202 (F := Ideal) x0 x8 x9 x10 (ix2 i d) = ((∑ k : Fin 32, gaussRow x (gc k) (gs k) * gf k : ℝ) : EReal) := by
  have e : val_main_v202 (F := Ideal) x0 x8 x9 x10 (ix2 i d)
      = ∑ k : Fin 32, Ideal.exp (Ideal.ofBits .f32 0xBF000000#32
          * (Ideal.div (x0 (ix2 i 0) - x8 (ix1 k)) (Ideal.exp (x9 (ix1 k))) * Ideal.div (x0 (ix2 i 0) - x8 (ix1 k)) (Ideal.exp (x9 (ix1 k)))))
          * x10 (ix2 k d) := by
    pointwise [val_main_v202, val_main_v201, val_main_v200, val_main_v198, val_main_v197, val_main_v196, val_main_v195, val_main_v189,
      val_main_v194, val_main_v193, val_main_v191, val_main_v192, val_main_v190, val_main_v62, val_main_v199, val_main_cst_20]
  rw [e, coe_sum]
  refine Finset.sum_congr rfl fun k _ => ?_
  rw [hx, hc, hs, hf, lit_neg_half, div_ne_zero _ (exp_width (h0 k)).1, (exp_width (h0 k)).2, EReal.coe_mul]
  unfold gaussRow
  rw [bell_real]
  rfl

/-- The wavelet expert: 32 rows combined. -/
theorem v219_at {wc ws : Fin 32 → EReal} {wf : Fin 32 → ℝ} (hc : ∀ k, x11 (ix1 k) = wc k) (h0 : ∀ k, wc k ≠ 0)
    (hs : ∀ k, x12 (ix1 k) = ws k) (hf : ∀ k, x13 (ix2 k d) = (wf k : EReal)) :
    val_main_v219 (F := Ideal) x0 x11 x12 x13 (ix2 i d) = ((∑ k : Fin 32, waveletRow x (ws k) (wc k) * wf k : ℝ) : EReal) := by
  have e : val_main_v219 (F := Ideal) x0 x11 x12 x13 (ix2 i d)
      = ∑ k : Fin 32, (1 - Ideal.div (x0 (ix2 i 0) - x12 (ix1 k)) (x11 (ix1 k)) * Ideal.div (x0 (ix2 i 0) - x12 (ix1 k)) (x11 (ix1 k)))
          * Ideal.exp (Ideal.ofBits .f32 0xBF000000#32
            * (Ideal.div (x0 (ix2 i 0) - x12 (ix1 k)) (x11 (ix1 k)) * Ideal.div (x0 (ix2 i 0) - x12 (ix1 k)) (x11 (ix1 k))))
          * x13 (ix2 k d) := by
    pointwise [val_main_v219, val_main_v218, val_main_v217, val_main_v216, val_main_v214, val_main_v210, val_main_v209, val_main_v208,
      val_main_v207, val_main_v206, val_main_v204, val_main_v205, val_main_v203, val_main_v62, val_main_v215, val_main_cst_22,
      val_main_v213, val_main_v211, val_main_v212, val_main_cst_21]
  rw [e, coe_sum]
  refine Finset.sum_congr rfl fun k _ => ?_
  rw [hx, hc, hs, hf, lit_neg_half, div_ne_zero _ (h0 k), mul_comm (1 - _) (Ideal.exp _), EReal.coe_mul]
  unfold waveletRow
  rw [hat_real]
  rfl

end Cert.Proof.Ref

end
-- ==== Proof.RefNorm.lean ====
module

public import proofs.«01_k».proof.Proof.RefExperts

/-! The reference's weighted sum of the experts and its layer norm at one token, over the reals. -/

@[expose] public section

noncomputable section

namespace Cert.Proof

open scoped BigOperators

/-- The rows combined are the four experts, each times its weight. -/
theorem combined (x : ℝ) (w : Fin 4 → ℝ) (gc gs ws wc : Fin 32 → EReal) (fc : Fin 64 → Fin 2048 → ℝ) (gf wf : Fin 32 → Fin 2048 → ℝ)
    (sp : Fin 11 → Fin 2048 → ℝ) (ss sb : Fin 2048 → ℝ) (d : Fin 2048) :
    ∑ b, basisRow x w gc gs ws wc b * coefRow fc gf wf sp ss sb b d
      = (∑ k : Fin 64, fourierRow x k.val * fc k d) * w 0
        + (sb d * swish x + ss d * ∑ k : Fin 11, cubic (4 * x + 7 - k.val) * sp k d) * w 1
        + (∑ k : Fin 32, gaussRow x (gc k) (gs k) * gf k d) * w 2
        + (∑ k : Fin 32, waveletRow x (ws k) (wc k) * wf k d) * w 3 := by
  rw [sum_rows, sum_sixteen]
  · have e1 : ∀ k : Fin 64, basisRow x w gc gs ws wc ⟨k.val, by omega⟩ * coefRow fc gf wf sp ss sb ⟨k.val, by omega⟩ d
        = fourierRow x k.val * fc k d * w 0 := fun k => by
      unfold basisRow coefRow
      simp only [k.isLt, if_true, dite_true, Fin.eta]
      ring
    have e2 : ∀ k : Fin 32, basisRow x w gc gs ws wc ⟨64 + k.val, by omega⟩ * coefRow fc gf wf sp ss sb ⟨64 + k.val, by omega⟩ d
        = gaussRow x (gc k) (gs k) * gf k d * w 2 := fun k => by
      have n : ¬ 64 + k.val < 64 := by omega
      unfold basisRow coefRow
      simp only [n, if_false, dite_false, Nat.add_sub_cancel_left, k.isLt, dite_true, Fin.eta]
      ring
    have e3 : ∀ k : Fin 32, basisRow x w gc gs ws wc ⟨96 + k.val, by omega⟩ * coefRow fc gf wf sp ss sb ⟨96 + k.val, by omega⟩ d
        = waveletRow x (ws k) (wc k) * wf k d * w 3 := fun k => by
      have n : ¬ 96 + k.val < 64 := by omega
      have n' : ¬ 96 + k.val - 64 < 32 := by omega
      have q : 96 + k.val - 64 - 32 = k.val := by omega
      unfold basisRow coefRow
      simp only [n, n', if_false, dite_false, q, k.isLt, dite_true, Fin.eta]
      ring
    have e4 : ∀ k : Fin 11, basisRow x w gc gs ws wc ⟨128 + k.val, by omega⟩ * coefRow fc gf wf sp ss sb ⟨128 + k.val, by omega⟩ d
        = cubic (4 * x + 7 - k.val) * sp k d * (ss d * w 1) := fun k => by
      have n : ¬ 128 + k.val < 64 := by omega
      have n' : ¬ 128 + k.val - 64 < 32 := by omega
      have n'' : ¬ 128 + k.val - 64 - 32 < 32 := by omega
      have q : 128 + k.val - 64 - 32 - 32 = k.val := by omega
      unfold basisRow coefRow splineRow
      simp only [n, n', n'', if_false, dite_false, q, k.isLt, if_true, dite_true, Fin.eta]
      ring
    have e5 : basisRow x w gc gs ws wc ⟨128 + (11 : Fin 16).val, by decide⟩ * coefRow fc gf wf sp ss sb ⟨128 + (11 : Fin 16).val, by decide⟩ d
        = sb d * swish x * w 1 := by
      unfold basisRow coefRow splineRow
      norm_num
      ring
    rw [Finset.sum_congr rfl fun k _ => e1 k, Finset.sum_congr rfl fun k _ => e2 k, Finset.sum_congr rfl fun k _ => e3 k,
      Finset.sum_congr rfl fun k _ => e4 k, e5, ← Finset.sum_mul, ← Finset.sum_mul, ← Finset.sum_mul, ← Finset.sum_mul]
    ring
  · intro k hk
    have n : ¬ 128 + k.val < 64 := by omega
    have n' : ¬ 128 + k.val - 64 < 32 := by omega
    have n'' : ¬ 128 + k.val - 64 - 32 < 32 := by omega
    have q : 128 + k.val - 64 - 32 - 32 = k.val := by omega
    have q' : ¬ k.val < 11 := by omega
    have q'' : ¬ k.val = 11 := by omega
    unfold basisRow splineRow
    simp only [n, n', n'', if_false, dite_false, q, q', q'', zero_mul]

end Cert.Proof

namespace Cert.Proof.Ref

open Idealize.ShloMosaic Cert.Proof
open Cert.Proof.Block (lit_small)
open Cert.ReferenceIdeal Cert.ReferenceIdeal.Gen Cert.ReferenceIdeal.Read
open scoped BigOperators

/-- The literal 2048. -/
theorem lit_length : Ideal.ofBits .f32 0x45000000#32 = ((2048 : ℝ) : EReal) := by
  simp [Ideal.ofBits, Ideal.ieee, -EReal.coe_mul, -EReal.coe_neg]
  norm_num

variable {x0 : (⟨S8192x1, .f32⟩ : BufTy).Contents (Elt Ideal)} {x1 : (⟨S8192x64, .f32⟩ : BufTy).Contents (Elt Ideal)}
  {x2 : (⟨S65x4, .f32⟩ : BufTy).Contents (Elt Ideal)} {x3 : (⟨S4, .f32⟩ : BufTy).Contents (Elt Ideal)}
  {x4 : (⟨S64x2048, .f32⟩ : BufTy).Contents (Elt Ideal)}
  {x5 : (⟨S11x2048, .f32⟩ : BufTy).Contents (Elt Ideal)} {x6 x7 : (⟨S2048, .f32⟩ : BufTy).Contents (Elt Ideal)}
  {x8 x9 : (⟨S32, .f32⟩ : BufTy).Contents (Elt Ideal)} {x10 : (⟨S32x2048, .f32⟩ : BufTy).Contents (Elt Ideal)}
  {x11 x12 : (⟨S32, .f32⟩ : BufTy).Contents (Elt Ideal)} {x13 : (⟨S32x2048, .f32⟩ : BufTy).Contents (Elt Ideal)}
  {x14 x15 : (⟨S2048, .f32⟩ : BufTy).Contents (Elt Ideal)} {i : Fin 8192}

/-- The sum over the experts of their combinations. -/
theorem v228_sum (d : Fin 2048) :
    val_main_v228 (F := Ideal) x0 x1 x2 x3 x4 x5 x6 x7 x8 x9 x10 x11 x12 x13 (ix2 i d)
      = val_main_v76 (F := Ideal) x0 x4 (ix2 i d) * val_main_v61 (F := Ideal) x0 x1 x2 x3 (ix2 i 0)
        + val_main_v188 (F := Ideal) x0 x5 x6 x7 (ix2 i d) * val_main_v61 (F := Ideal) x0 x1 x2 x3 (ix2 i 1)
        + val_main_v202 (F := Ideal) x0 x8 x9 x10 (ix2 i d) * val_main_v61 (F := Ideal) x0 x1 x2 x3 (ix2 i 2)
        + val_main_v219 (F := Ideal) x0 x11 x12 x13 (ix2 i d) * val_main_v61 (F := Ideal) x0 x1 x2 x3 (ix2 i 3) := by
  unfold val_main_v228 val_main_cst_23 val_main_v227 val_main_v226 val_main_v225 val_main_v224 val_main_v223 val_main_v222 val_main_v221
    val_main_v220
  generalize val_main_v61 (F := Ideal) x0 x1 x2 x3 = y0
  generalize val_main_v76 (F := Ideal) x0 x4 = y1
  generalize val_main_v188 (F := Ideal) x0 x5 x6 x7 = y2
  generalize val_main_v202 (F := Ideal) x0 x8 x9 x10 = y3
  generalize val_main_v219 (F := Ideal) x0 x11 x12 x13 = y4
  pointwise []
  rw [Fin.sum_univ_four]
  rfl

/-- The layer norm's terms, read at one entry. -/
theorem v246_read (d : Fin 2048) (y : S8192x2048.Idx → Ideal .f32)
    (hy : val_main_v228 (F := Ideal) x0 x1 x2 x3 x4 x5 x6 x7 x8 x9 x10 x11 x12 x13 = y) :
    val_main_v246 (F := Ideal) x0 x1 x2 x3 x4 x5 x6 x7 x8 x9 x10 x11 x12 x13 x14 x15 (ix2 i d)
      = Ideal.div (y (ix2 i d) - Ideal.div (∑ k, y (ix2 i k)) (Ideal.ofBits .f32 0x45000000#32))
          (Ideal.sqrt
            ((if 0 < Ideal.ofBits .f32 0x45000000#32 - (FloatOps.sitofp .f32 0#32 : Ideal .f32) then
                Ideal.div
                  (∑ k, (y (ix2 i k) - Ideal.div (∑ k, y (ix2 i k)) (Ideal.ofBits .f32 0x45000000#32))
                      * (y (ix2 i k) - Ideal.div (∑ k, y (ix2 i k)) (Ideal.ofBits .f32 0x45000000#32)))
                  (Ideal.ofBits .f32 0x45000000#32 - (FloatOps.sitofp .f32 0#32 : Ideal .f32))
              else (id (constant (F := Ideal) S_ .f32 0x7FC00000#32) ix0 : Ideal .f32))
              + Ideal.ofBits .f32 0x3727C5AC#32))
          * x14 (ix1 d) + x15 (ix1 d) := by
  unfold val_main_v246 val_main_v245 val_main_v244 val_main_v243 val_main_v242 val_main_v241 val_main_v240 val_main_v239 val_main_v238
    val_main_v237 val_main_v236 val_main_cst_27 val_main_v233 val_main_call1_call0_v1 val_main_call1_call0_v0 val_main_call1_cst_4
    val_main_call1_v12 val_main_call1_v11 val_main_call1_v10 val_main_call1_v9 val_main_call1_cst_2
    val_main_call1_v6 val_main_call1_v5 val_main_call1_v4 val_main_call1_v3 val_main_call1_v2 val_main_call1_cst_0 val_main_call1_v1
    val_main_call1_v0 val_main_call1_cst val_main_call1_v13 val_main_call1_cst_3 val_main_v235 val_main_v234 val_main_v232 val_main_v231
    val_main_cst_25 val_main_v230 val_main_v229 val_main_cst_24
  rw [hy]
  pointwise [val_main_call1_v8, val_main_call1_v7, val_main_c_26, val_main_call1_cst_1]

/-- The layer norm of a row of reals, with unit scale and no shift. -/
theorem v246_row (S : Fin 2048 → ℝ)
    (hS : ∀ d, val_main_v228 (F := Ideal) x0 x1 x2 x3 x4 x5 x6 x7 x8 x9 x10 x11 x12 x13 (ix2 i d) = (S d : EReal)) (d : Fin 2048)
    (hg : x14 (ix1 d) = ((1 : ℝ) : EReal)) (hb : x15 (ix1 d) = ((0 : ℝ) : EReal)) :
    val_main_v246 (F := Ideal) x0 x1 x2 x3 x4 x5 x6 x7 x8 x9 x10 x11 x12 x13 x14 x15 (ix2 i d)
      = (((S d - (∑ k, S k) * share)
          / Real.sqrt ((∑ k, (S k - (∑ k, S k) * share) * (S k - (∑ k, S k) * share)) * share + small) : ℝ) : EReal) := by
  rw [v246_read d _ rfl]
  generalize val_main_v228 (F := Ideal) x0 x1 x2 x3 x4 x5 x6 x7 x8 x9 x10 x11 x12 x13 = y at hS
  have len : Ideal.ofBits .f32 0x45000000#32 - (FloatOps.sitofp .f32 0#32 : Ideal .f32) = ((2048 : ℝ) : EReal) := by
    rw [lit_length]
    show ((2048 : ℝ) : EReal) - (((0#32 : BitVec 32).toInt : ℝ) : EReal) = _
    rw [← EReal.coe_sub]
    norm_num
  have byLen : ∀ a : ℝ, Ideal.div (a : EReal) ((2048 : ℝ) : EReal) = ((a * share : ℝ) : EReal) := fun a => by
    rw [Ideal.div_coe (by norm_num), ← EReal.coe_mul]
    rfl
  have mean : Ideal.div (∑ k, y (ix2 i k)) ((2048 : ℝ) : EReal) = (((∑ k, S k) * share : ℝ) : EReal) := by
    rw [Finset.sum_congr rfl fun k _ => hS k, ← coe_sum, byLen]
  have square : (∑ k, (y (ix2 i k) - (((∑ k, S k) * share : ℝ) : EReal)) * (y (ix2 i k) - (((∑ k, S k) * share : ℝ) : EReal)))
      = ((∑ k, (S k - (∑ k, S k) * share) * (S k - (∑ k, S k) * share) : ℝ) : EReal) := by
    rw [coe_sum]
    exact Finset.sum_congr rfl fun k _ => by rw [hS, ← EReal.coe_sub, ← EReal.coe_mul]
  have pos : 0 < (∑ k, (S k - (∑ k, S k) * share) * (S k - (∑ k, S k) * share)) * share + small :=
    add_pos_of_nonneg_of_pos (mul_nonneg (Finset.sum_nonneg fun k _ => mul_self_nonneg _) (by unfold share; norm_num)) small_pos
  rw [len, if_pos (show (0 : EReal) < ((2048 : ℝ) : EReal) from EReal.coe_pos.2 (by norm_num)), lit_length, mean, square, byLen, hS, lit_small,
    hg, hb, ← EReal.coe_add, ← EReal.coe_sub, Ideal.sqrt_coe, if_neg (not_lt.2 pos.le), coe_div _ _ (Real.sqrt_pos.2 pos).ne', ← EReal.coe_mul,
    ← EReal.coe_add, mul_one, add_zero]

/-- The reference's first result: the normalised combination of the rows. -/
theorem v246_at (C : Fin 144 → Fin 2048 → ℝ) (z : Fin 144 → ℝ)
    (hS : ∀ d, val_main_v228 (F := Ideal) x0 x1 x2 x3 x4 x5 x6 x7 x8 x9 x10 x11 x12 x13 (ix2 i d) = ((∑ b, z b * C b d : ℝ) : EReal))
    (d : Fin 2048) (hg : x14 (ix1 d) = ((1 : ℝ) : EReal)) (hb : x15 (ix1 d) = ((0 : ℝ) : EReal)) :
    val_main_v246 (F := Ideal) x0 x1 x2 x3 x4 x5 x6 x7 x8 x9 x10 x11 x12 x13 x14 x15 (ix2 i d) = ((normed C z d : ℝ) : EReal) := by
  rw [v246_row _ hS d hg hb]
  congr 1
  simp only [combine_sub_mean, mean_square]
  unfold normed spread
  rw [div_eq_mul_inv, Finset.sum_mul]
  exact Finset.sum_congr rfl fun b _ => by ring

end Cert.Proof.Ref

end
-- ==== Proof.RefValue.lean ====
module

public import proofs.«01_k».proof.Proof.RefNorm
public import proofs.«01_k».proof.Proof.Inputs

/-! The reference's three results, entry by entry, over the reals its arguments hold. -/

@[expose] public section

noncomputable section

namespace Cert.Proof.Ref

open Idealize.ShloMosaic Cert.Proof
open Cert.ReferenceIdeal Cert.ReferenceIdeal.Gen Cert.ReferenceIdeal.Read
open scoped BigOperators

variable {x0 : (⟨S8192x1, .f32⟩ : BufTy).Contents (Elt Ideal)} {x1 : (⟨S8192x64, .f32⟩ : BufTy).Contents (Elt Ideal)}
  {x2 : (⟨S65x4, .f32⟩ : BufTy).Contents (Elt Ideal)} {x3 : (⟨S4, .f32⟩ : BufTy).Contents (Elt Ideal)}
  {x4 : (⟨S64x2048, .f32⟩ : BufTy).Contents (Elt Ideal)}
  {x5 : (⟨S11x2048, .f32⟩ : BufTy).Contents (Elt Ideal)} {x6 x7 : (⟨S2048, .f32⟩ : BufTy).Contents (Elt Ideal)}
  {x8 x9 : (⟨S32, .f32⟩ : BufTy).Contents (Elt Ideal)} {x10 : (⟨S32x2048, .f32⟩ : BufTy).Contents (Elt Ideal)}
  {x11 x12 : (⟨S32, .f32⟩ : BufTy).Contents (Elt Ideal)} {x13 : (⟨S32x2048, .f32⟩ : BufTy).Contents (Elt Ideal)}
  {x14 x15 : (⟨S2048, .f32⟩ : BufTy).Contents (Elt Ideal)} {R : Reals}
  (H : Holds x0 x1 x2 x3 x4 x5 x6 x7 x8 x9 x10 x11 x12 x13 x14 x15 R)
include H

/-- The reference's scores of a token are the model's. -/
theorem score_value (i : Fin 8192) (e : Fin 4) : val_main_v4 (F := Ideal) x0 x1 x2 x3 (ix2 i e) = ((R.logits i e : ℝ) : EReal) := by
  have s : ∑ k : Fin 64, x1 (ix2 i k) * x2 (ix2 ⟨1 + k.val, by omega⟩ e)
      = ((∑ k : Fin 64, R.W (1 + k.val) e * R.aux i k : ℝ) : EReal) := by
    rw [coe_sum]
    refine Finset.sum_congr rfl fun k _ => ?_
    rw [H.W, H.aux, ← EReal.coe_mul, mul_comm]
  rw [v4_at, s, H.x, H.W, H.bias, ← EReal.coe_mul, ← EReal.coe_add, ← EReal.coe_add]
  unfold Reals.logits score
  congr 1
  rw [show ((0 : Fin 65).val) = 0 from rfl]
  ring

/-- The second result: the softmax of the scores. -/
theorem raw_value (i : Fin 8192) (e : Fin 4) :
    val_main_v15 (F := Ideal) x0 x1 x2 x3 (ix2 i e) = ((soft (R.logits i) e : ℝ) : EReal) :=
  v15_at (score_value H i) e

/-- The third result: whether an expert is the first or the second. -/
theorem chosen_value (i : Fin 8192) (e : Fin 4) :
    val_main_v45 (F := Ideal) x0 x1 x2 x3 (ix2 i e)
      = BitVec.ofBool (decide (first (soft (R.logits i)) = e ∨ second (soft (R.logits i)) = e)) :=
  v45_at (score_value H) i e

/-- The experts combined: the rows combined. -/
theorem sum_value (i : Fin 8192) (d : Fin 2048) :
    val_main_v228 (F := Ideal) x0 x1 x2 x3 x4 x5 x6 x7 x8 x9 x10 x11 x12 x13 (ix2 i d)
      = ((∑ b, R.basis i b * R.coef b d : ℝ) : EReal) := by
  have w := v61_at (score_value H) i
  rw [v228_sum, v76_at (H.x i) (fun k => H.fc k d), v188_at (H.x i) (fun k => H.sp k d) (H.sb d) (H.ss d),
    v202_at (H.x i) H.gc H.gs H.wide (fun k => H.gf k d), v219_at (H.x i) H.wc H.nonzero H.ws (fun k => H.wf k d), w, w, w, w,
    ← EReal.coe_mul, ← EReal.coe_mul, ← EReal.coe_mul, ← EReal.coe_mul, ← EReal.coe_add, ← EReal.coe_add, ← EReal.coe_add]
  unfold Reals.basis Reals.coef
  rw [combined]

/-- The first result: the normalised combination of the rows. -/
theorem out_value (i : Fin 8192) (d : Fin 2048) :
    val_main_v246 (F := Ideal) x0 x1 x2 x3 x4 x5 x6 x7 x8 x9 x10 x11 x12 x13 x14 x15 (ix2 i d)
      = ((normed R.coef (R.basis i) d : ℝ) : EReal) :=
  v246_at R.coef (R.basis i) (sum_value H i) d (H.unit d) (H.flat d)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.RefValue
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The reference runs and leaves its arguments, whatever they hold. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Each named constant has the value its name states. -/
theorem preserves : Cert.preserves_Kernel_KernelIdeal :=
  ⟨IdealRules.named_const.statement Cert.KernelIdeal.κ "half_pi" .f32 0x3FC90FDB#32 ((Real.pi * 2⁻¹ : ℝ) : EReal) rfl,
    IdealRules.named_const.statement Cert.KernelIdeal.κ "sixth" .f32 0x3E2AAAAB#32 ((1 / 6 : ℝ) : EReal) rfl⟩

/-- An index of a two-axis array is its two coordinates. -/
theorem index_eq {a b : ℕ} (j : (⟨2, ![a, b]⟩ : Shape).Idx) : ∃ (i : Fin a) (e : Fin b), j = ix2 i e :=
  ⟨j 0, j 1, by funext k; fin_cases k <;> rfl⟩

/-- Two arrays of two axes that agree at every pair of coordinates agree. -/
theorem array_eq {a b : ℕ} {α : Type} (f g : (⟨2, ![a, b]⟩ : Shape).Idx → α) (h : ∀ i e, f (ix2 i e) = g (ix2 i e)) : f = g := by
  funext j
  obtain ⟨i, e, rfl⟩ := index_eq j
  exact h i e

/-- From arguments meeting the preconditions both programs end with the same three results. -/
theorem algebraic : Cert.algebraic_KernelIdeal_ReferenceIdeal_pre_trained_inputs (hPre_trained_inputs := pre_facts) := by
  intro m g m' g' hpre hag
  have H : ∀ c, HoldsAt m c (realsAt m c) := fun c => holds_of_pre m c hpre
  refine ⟨fun c => Block.outAll m c, fun c => Block.rawAll m c, fun c => Block.chosen m c, ?_, ?_⟩
  · refine (θ_run _ _ _).mono (fun r h c => ?_) (θ_run_and (Block.run m g) (Cert.KernelIdeal.Gen.unchanged m g))
    exact ⟨(h.1 c).1, (h.1 c).2.1, (h.1 c).2.2, h.2 c⟩
  · refine (θ_run _ _ _).mono (fun r h c => ?_) (Cert.ReferenceIdeal.Value.run (F := Ideal) m' g')
    obtain ⟨a0, a1, a2, a3, a4, a5, a6, a7, a8, a9, a10, a11, a12, a13, a14, a15⟩ := hag c
    have K := H c
    unfold HoldsAt at K
    rw [← a0, ← a1, ← a2, ← a3, ← a4, ← a5, ← a6, ← a7, ← a8, ← a9, ← a10, ← a11, ← a12, ← a13, ← a14, ← a15] at K
    refine ⟨(h c).1.trans ?_, (h c).2.1.trans ?_, (h c).2.2.1.trans ?_, (h c).2.2.2⟩
    · refine (Cert.ReferenceIdeal.Read.val_main_v246_eq (F := Ideal) _).trans (array_eq _ _ fun i d => ?_)
      exact (Ref.out_value K i d).trans (Block.out_value (H c) i d).symm
    · refine (Cert.ReferenceIdeal.Read.val_main_v15_eq (F := Ideal) _).trans (array_eq _ _ fun i e => ?_)
      exact (Ref.raw_value K i e).trans (Block.raw_value (H c) i e).symm
    · refine (Cert.ReferenceIdeal.Read.val_main_v45_eq (F := Ideal) _).trans (array_eq _ _ fun i e => ?_)
      exact (Ref.chosen_value K i e).trans (Block.chosen_value (H c) i e).symm

/-- The programs run and leave their arguments; each named constant has the value its name states; the results agree. -/
theorem claim : Cert.Claim :=
  ⟨Cert.Kernel.Gen.facts, Cert.KernelIdeal.Gen.facts, Cert.ReferenceIdeal.Gen.facts, pre_facts,
    fun m ρ _ => Cert.Kernel.Gen.frame m ρ,
    fun m ρ _ => Cert.KernelIdeal.Gen.frame m ρ,
    fun m ρ _ => Cert.KernelIdeal.Gen.frame m ρ,
    frame_ri, fun m ρ _ => frame_ri m ρ trivial, preserves, algebraic⟩

end Cert.Proof

end
